-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite_and_different [hPre_logits_finite_and_different : Cert.Pre_logits_finite_and_different.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite_and_different.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_logits_finite_and_different.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite_and_different [hPre_logits_finite_and_different : Cert.Pre_logits_finite_and_different.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite_and_different.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_logits_finite_and_different.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_logits_finite_and_different [hKernelIdeal : Cert.KernelIdeal.Facts] [hPre_logits_finite_and_different : Cert.Pre_logits_finite_and_different.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite_and_different m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_logits_finite_and_different [hReferenceIdeal : Cert.ReferenceIdeal.Facts] [hPre_logits_finite_and_different : Cert.Pre_logits_finite_and_different.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite_and_different m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_logits_finite_and_different [hKernelIdeal : Cert.KernelIdeal.Facts] [hReferenceIdeal : Cert.ReferenceIdeal.Facts] [hPre_logits_finite_and_different : Cert.Pre_logits_finite_and_different.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite_and_different m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_logits_finite_and_different : Cert.Pre_logits_finite_and_different.Facts),
    quiescent_Kernel (hKernel := hKernel)
    ∧ quiescent_KernelIdeal (hKernelIdeal := hKernelIdeal)
    ∧ quiescent_KernelIdeal_pre_logits_finite_and_different (hKernelIdeal := hKernelIdeal) (hPre_logits_finite_and_different := hPre_logits_finite_and_different)
    ∧ quiescent_ReferenceIdeal (hReferenceIdeal := hReferenceIdeal)
    ∧ quiescent_ReferenceIdeal_pre_logits_finite_and_different (hReferenceIdeal := hReferenceIdeal) (hPre_logits_finite_and_different := hPre_logits_finite_and_different)
    ∧ preserves_Kernel_KernelIdeal
    ∧ algebraic_KernelIdeal_ReferenceIdeal_pre_logits_finite_and_different (hKernelIdeal := hKernelIdeal) (hReferenceIdeal := hReferenceIdeal) (hPre_logits_finite_and_different := hPre_logits_finite_and_different)
-- ==== Pre_logits_finite_and_different.lean ====
abbrev S4x4096x2048 : Shape := ⟨3, ![4, 4096, 2048]⟩
abbrev S64x2048 : Shape := ⟨2, ![64, 2048]⟩
abbrev S16384x2048 : Shape := ⟨2, ![16384, 2048]⟩
abbrev S2048x64 : Shape := ⟨2, ![2048, 64]⟩
abbrev S16384x64 : Shape := ⟨2, ![16384, 64]⟩
abbrev S64 : Shape := ⟨1, ![64]⟩
abbrev S_ : Shape := ⟨0, ![]⟩
abbrev S16384x64x1 : Shape := ⟨3, ![16384, 64, 1]⟩
abbrev S16384x1x64 : Shape := ⟨3, ![16384, 1, 64]⟩
abbrev S16384x64x64 : Shape := ⟨3, ![16384, 64, 64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩

class Facts : Prop where
  shapeCasts_S4x4096x2048_S16384x2048 : S4x4096x2048.ShapeCasts S16384x2048
  transposes_S64x2048_S2048x64_1_0 : S64x2048.Transposes [1, 0] S2048x64
  bcast_S_S16384x64 : S_.BroadcastsInDim S16384x64 (![] : Fin 0 → Fin S16384x64.rank)
  bcast_S16384x64_S16384x64x1_0_1 : S16384x64.BroadcastsInDim S16384x64x1 (![0, 1] : Fin 2 → Fin S16384x64x1.rank)
  bcast_S16384x64_S16384x1x64_0_2 : S16384x64.BroadcastsInDim S16384x1x64 (![0, 2] : Fin 2 → Fin S16384x1x64.rank)
  bcast_S16384x64x1_S16384x64x64_0_1_2 : S16384x64x1.BroadcastsInDim S16384x64x64 (![0, 1, 2] : Fin 3 → Fin S16384x64x64.rank)
  bcast_S16384x1x64_S16384x64x64_0_1_2 : S16384x1x64.BroadcastsInDim S16384x64x64 (![0, 1, 2] : Fin 3 → Fin S16384x64x64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S64x64_S1x64x64_1_2 : S64x64.BroadcastsInDim S1x64x64 (![1, 2] : Fin 2 → Fin S1x64x64.rank)
  bcast_S1x64x64_S16384x64x64_0_1_2 : S1x64x64.BroadcastsInDim S16384x64x64 (![0, 1, 2] : Fin 3 → Fin S16384x64x64.rank)
  dot_S16384x2048_S2048x64_S16384x64_1_0_0_1_n_n_wf : DotDims.WF S16384x2048 S2048x64 S16384x64 [1] [0] [0] [1] [] []

variable [Facts]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf
def fn {F : FTy → Type} [FloatOps F] (main_arg0 : FVec F S4x4096x2048 .f32) (main_arg1 : FVec F S64x2048 .f32) : IVec S16384x64 1 × IVec S16384x64x64 1 :=
  let main_v0 : FVec F S16384x2048 .f32 := shapeCast S16384x2048 main_arg0 shapeCasts_S4x4096x2048_S16384x2048
  let main_v1 : FVec F S2048x64 .f32 := (transpose S2048x64 [1, 0] · transposes_S64x2048_S2048x64_1_0) main_arg1
  let main_v2 : FVec F S16384x64 .f32 := (fun l r => Host.dotGeneral dot_S16384x2048_S2048x64_S16384x64_1_0_0_1_n_n none l r) main_v0 main_v1
  let main_v3 : IVec S64 32 := iotaInDim S64 32 0
  let main_v4 : FVec F S16384x64 .f32 := Host.absf main_v2
  let main_cst : FVec F S_ .f32 := constant S_ .f32 0x7F800000#32
  let main_v5 : FVec F S16384x64 .f32 := broadcastInDim S16384x64 ![] bcast_S_S16384x64 main_cst
  let main_v6 : IVec S16384x64 1 := cmpf .olt main_v4 main_v5
  let main_v7 : FVec F S16384x64x1 .f32 := broadcastInDim S16384x64x1 ![0, 1] bcast_S16384x64_S16384x64x1_0_1 main_v2
  let main_v8 : FVec F S16384x1x64 .f32 := broadcastInDim S16384x1x64 ![0, 2] bcast_S16384x64_S16384x1x64_0_2 main_v2
  let main_v9 : FVec F S16384x64x64 .f32 := broadcastInDim S16384x64x64 ![0, 1, 2] bcast_S16384x64x1_S16384x64x64_0_1_2 main_v7
  let main_v10 : FVec F S16384x64x64 .f32 := broadcastInDim S16384x64x64 ![0, 1, 2] bcast_S16384x1x64_S16384x64x64_0_1_2 main_v8
  let main_v11 : IVec S16384x64x64 1 := cmpf .une main_v9 main_v10
  let main_v12 : IVec S64x1 32 := broadcastInDim S64x1 ![0] bcast_S64_S64x1_0 main_v3
  let main_v13 : IVec S1x64 32 := broadcastInDim S1x64 ![1] bcast_S64_S1x64_1 main_v3
  let main_v14 : IVec S64x64 32 := broadcastInDim S64x64 ![0, 1] bcast_S64x1_S64x64_0_1 main_v12
  let main_v15 : IVec S64x64 32 := broadcastInDim S64x64 ![0, 1] bcast_S1x64_S64x64_0_1 main_v13
  let main_v16 : IVec S64x64 1 := cmpi .eq main_v14 main_v15
  let main_v17 : IVec S1x64x64 1 := broadcastInDim S1x64x64 ![1, 2] bcast_S64x64_S1x64x64_1_2 main_v16
  let main_v18 : IVec S16384x64x64 1 := broadcastInDim S16384x64x64 ![0, 1, 2] bcast_S1x64x64_S16384x64x64_0_1_2 main_v17
  let main_v19 : IVec S16384x64x64 1 := ori main_v11 main_v18
  (main_v6, main_v19)
-- ==== Kernel.lean ====
abbrev S4x4096x2048 : Shape := ⟨3, ![4, 4096, 2048]⟩
abbrev S64x2048 : Shape := ⟨2, ![64, 2048]⟩
abbrev S16384x2048 : Shape := ⟨2, ![16384, 2048]⟩
abbrev S64x16384 : Shape := ⟨2, ![64, 16384]⟩
abbrev S2048x2048 : Shape := ⟨2, ![2048, 2048]⟩
abbrev S2048 : Shape := ⟨1, ![2048]⟩
abbrev S1x2048 : Shape := ⟨2, ![1, 2048]⟩
abbrev S8x16384 : Shape := ⟨2, ![8, 16384]⟩
abbrev S64x512 : Shape := ⟨2, ![64, 512]⟩
abbrev S8x512 : Shape := ⟨2, ![8, 512]⟩
abbrev S_ : Shape := ⟨0, ![]⟩
abbrev S16 : Shape := ⟨1, ![16]⟩
abbrev S1x16 : Shape := ⟨2, ![1, 16]⟩
abbrev S16384x8 : Shape := ⟨2, ![16384, 8]⟩
abbrev S4x4096x8 : Shape := ⟨3, ![4, 4096, 8]⟩

abbrev nBuf : Table → Nat
  | .hbm => 10
  | .local .tc .vmem => 5
  | .local .scVector .vmem => 3
  | _ => 0

abbrev bufTy : (tb : Table) → Fin (nBuf tb) → BufTy
  | .hbm, ⟨0, _⟩ => ⟨S4x4096x2048, .f32⟩
  | .hbm, ⟨1, _⟩ => ⟨S64x2048, .f32⟩
  | .hbm, ⟨2, _⟩ => ⟨S16384x2048, .f32⟩
  | .hbm, ⟨3, _⟩ => ⟨S64x16384, .f32⟩
  | .hbm, ⟨4, _⟩ => ⟨S8x16384, .i32⟩
  | .hbm, ⟨5, _⟩ => ⟨S8x16384, .f32⟩
  | .hbm, ⟨6, _⟩ => ⟨S16384x8, .i32⟩
  | .hbm, ⟨7, _⟩ => ⟨S4x4096x8, .i32⟩
  | .hbm, ⟨8, _⟩ => ⟨S16384x8, .f32⟩
  | .hbm, ⟨9, _⟩ => ⟨S4x4096x8, .f32⟩
  | .local .tc .vmem, ⟨0, _⟩ => ⟨S2048x2048, .f32⟩
  | .local .tc .vmem, ⟨1, _⟩ => ⟨S2048x2048, .f32⟩
  | .local .tc .vmem, ⟨2, _⟩ => ⟨S64x2048, .f32⟩
  | .local .tc .vmem, ⟨3, _⟩ => ⟨S64x2048, .f32⟩
  | .local .tc .vmem, ⟨4, _⟩ => ⟨S64x2048, .f32⟩
  | .local .scVector .vmem, ⟨0, _⟩ => ⟨S64x512, .f32⟩
  | .local .scVector .vmem, ⟨1, _⟩ => ⟨S8x512, .i32⟩
  | .local .scVector .vmem, ⟨2, _⟩ => ⟨S8x512, .f32⟩
  | _, _ => ⟨S4x4096x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v1_scv : Ref sig .scVector := ⟨.hbm, 3, rfl⟩
abbrev main_v2_0_scv : Ref sig .scVector := ⟨.hbm, 4, rfl⟩
abbrev main_v2_1_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 2 → Nat :=
  let c0_i32_2_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k1_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k1_off2 (k1_t1 : Fin k1_t1_loop.trips) : Fin 2 → Nat :=
  let c0_i32_17 : BitVec 32 := 0#32
  let v21 : Index := Scalar.indexCast c0_i32_17
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v22 : Index := Scalar.indexCast v4
  ![0, v22.toNat]
def k1_off3 (k1_t1 : Fin k1_t1_loop.trips) : Fin 2 → Nat :=
  let c1_i32_19 : BitVec 32 := 1#32
  let v66 : Index := Scalar.indexCast c1_i32_19
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v67 : Index := Scalar.indexCast v4
  ![1, v67.toNat]
def k1_off4 (k1_t1 : Fin k1_t1_loop.trips) : Fin 2 → Nat :=
  let c2_i32_21 : BitVec 32 := 2#32
  let v111 : Index := Scalar.indexCast c2_i32_21
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v112 : Index := Scalar.indexCast v4
  ![2, v112.toNat]
def k1_off5 (k1_t1 : Fin k1_t1_loop.trips) : Fin 2 → Nat :=
  let c3_i32 : BitVec 32 := 3#32
  let v156 : Index := Scalar.indexCast c3_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v157 : Index := Scalar.indexCast v4
  ![3, v157.toNat]
def k1_off6 (k1_t1 : Fin k1_t1_loop.trips) : Fin 2 → Nat :=
  let c4_i32 : BitVec 32 := 4#32
  let v201 : Index := Scalar.indexCast c4_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v202 : Index := Scalar.indexCast v4
  ![4, v202.toNat]
def k1_off7 (k1_t1 : Fin k1_t1_loop.trips) : Fin 2 → Nat :=
  let c5_i32 : BitVec 32 := 5#32
  let v246 : Index := Scalar.indexCast c5_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v247 : Index := Scalar.indexCast v4
  ![5, v247.toNat]
def k1_off8 (k1_t1 : Fin k1_t1_loop.trips) : Fin 2 → Nat :=
  let c6_i32 : BitVec 32 := 6#32
  let v291 : Index := Scalar.indexCast c6_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v292 : Index := Scalar.indexCast v4
  ![6, v292.toNat]
def k1_off9 (k1_t1 : Fin k1_t1_loop.trips) : Fin 2 → Nat :=
  let c7_i32 : BitVec 32 := 7#32
  let v336 : Index := Scalar.indexCast c7_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v337 : Index := Scalar.indexCast v4
  ![7, v337.toNat]
def k1_off10 (k1_t1 : Fin k1_t1_loop.trips) : Fin 2 → Nat :=
  let c8_i32 : BitVec 32 := 8#32
  let v381 : Index := Scalar.indexCast c8_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v382 : Index := Scalar.indexCast v4
  ![8, v382.toNat]
def k1_off11 (k1_t1 : Fin k1_t1_loop.trips) : Fin 2 → Nat :=
  let c9_i32 : BitVec 32 := 9#32
  let v426 : Index := Scalar.indexCast c9_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v427 : Index := Scalar.indexCast v4
  ![9, v427.toNat]
def k1_off12 (k1_t1 : Fin k1_t1_loop.trips) : Fin 2 → Nat :=
  let c10_i32 : BitVec 32 := 10#32
  let v471 : Index := Scalar.indexCast c10_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v472 : Index := Scalar.indexCast v4
  ![10, v472.toNat]
def k1_off13 (k1_t1 : Fin k1_t1_loop.trips) : Fin 2 → Nat :=
  let c11_i32 : BitVec 32 := 11#32
  let v516 : Index := Scalar.indexCast c11_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v517 : Index := Scalar.indexCast v4
  ![11, v517.toNat]
def k1_off14 (k1_t1 : Fin k1_t1_loop.trips) : Fin 2 → Nat :=
  let c12_i32 : BitVec 32 := 12#32
  let v561 : Index := Scalar.indexCast c12_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v562 : Index := Scalar.indexCast v4
  ![12, v562.toNat]
def k1_off15 (k1_t1 : Fin k1_t1_loop.trips) : Fin 2 → Nat :=
  let c13_i32 : BitVec 32 := 13#32
  let v606 : Index := Scalar.indexCast c13_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v607 : Index := Scalar.indexCast v4
  ![13, v607.toNat]
def k1_off16 (k1_t1 : Fin k1_t1_loop.trips) : Fin 2 → Nat :=
  let c14_i32 : BitVec 32 := 14#32
  let v651 : Index := Scalar.indexCast c14_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v652 : Index := Scalar.indexCast v4
  ![14, v652.toNat]
def k1_off17 (k1_t1 : Fin k1_t1_loop.trips) : Fin 2 → Nat :=
  let c15_i32 : BitVec 32 := 15#32
  let v696 : Index := Scalar.indexCast c15_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v697 : Index := Scalar.indexCast v4
  ![15, v697.toNat]
def k1_off18 (k1_t1 : Fin k1_t1_loop.trips) : Fin 2 → Nat :=
  let c16_i32_36 : BitVec 32 := 16#32
  let v741 : Index := Scalar.indexCast c16_i32_36
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v742 : Index := Scalar.indexCast v4
  ![16, v742.toNat]
def k1_off19 (k1_t1 : Fin k1_t1_loop.trips) : Fin 2 → Nat :=
  let c17_i32 : BitVec 32 := 17#32
  let v786 : Index := Scalar.indexCast c17_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v787 : Index := Scalar.indexCast v4
  ![17, v787.toNat]
def k1_off20 (k1_t1 : Fin k1_t1_loop.trips) : Fin 2 → Nat :=
  let c18_i32 : BitVec 32 := 18#32
  let v831 : Index := Scalar.indexCast c18_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v832 : Index := Scalar.indexCast v4
  ![18, v832.toNat]
def k1_off21 (k1_t1 : Fin k1_t1_loop.trips) : Fin 2 → Nat :=
  let c19_i32 : BitVec 32 := 19#32
  let v876 : Index := Scalar.indexCast c19_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v877 : Index := Scalar.indexCast v4
  ![19, v877.toNat]
def k1_off22 (k1_t1 : Fin k1_t1_loop.trips) : Fin 2 → Nat :=
  let c20_i32 : BitVec 32 := 20#32
  let v921 : Index := Scalar.indexCast c20_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v922 : Index := Scalar.indexCast v4
  ![20, v922.toNat]
def k1_off23 (k1_t1 : Fin k1_t1_loop.trips) : Fin 2 → Nat :=
  let c21_i32 : BitVec 32 := 21#32
  let v966 : Index := Scalar.indexCast c21_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v967 : Index := Scalar.indexCast v4
  ![21, v967.toNat]
def k1_off24 (k1_t1 : Fin k1_t1_loop.trips) : Fin 2 → Nat :=
  let c22_i32 : BitVec 32 := 22#32
  let v1011 : Index := Scalar.indexCast c22_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1012 : Index := Scalar.indexCast v4
  ![22, v1012.toNat]
def k1_off25 (k1_t1 : Fin k1_t1_loop.trips) : Fin 2 → Nat :=
  let c23_i32 : BitVec 32 := 23#32
  let v1056 : Index := Scalar.indexCast c23_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1057 : Index := Scalar.indexCast v4
  ![23, v1057.toNat]
def k1_off26 (k1_t1 : Fin k1_t1_loop.trips) : Fin 2 → Nat :=
  let c24_i32 : BitVec 32 := 24#32
  let v1101 : Index := Scalar.indexCast c24_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1102 : Index := Scalar.indexCast v4
  ![24, v1102.toNat]
def k1_off27 (k1_t1 : Fin k1_t1_loop.trips) : Fin 2 → Nat :=
  let c25_i32 : BitVec 32 := 25#32
  let v1146 : Index := Scalar.indexCast c25_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1147 : Index := Scalar.indexCast v4
  ![25, v1147.toNat]
def k1_off28 (k1_t1 : Fin k1_t1_loop.trips) : Fin 2 → Nat :=
  let c26_i32 : BitVec 32 := 26#32
  let v1191 : Index := Scalar.indexCast c26_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1192 : Index := Scalar.indexCast v4
  ![26, v1192.toNat]
def k1_off29 (k1_t1 : Fin k1_t1_loop.trips) : Fin 2 → Nat :=
  let c27_i32 : BitVec 32 := 27#32
  let v1236 : Index := Scalar.indexCast c27_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1237 : Index := Scalar.indexCast v4
  ![27, v1237.toNat]
def k1_off30 (k1_t1 : Fin k1_t1_loop.trips) : Fin 2 → Nat :=
  let c28_i32 : BitVec 32 := 28#32
  let v1281 : Index := Scalar.indexCast c28_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1282 : Index := Scalar.indexCast v4
  ![28, v1282.toNat]
def k1_off31 (k1_t1 : Fin k1_t1_loop.trips) : Fin 2 → Nat :=
  let c29_i32 : BitVec 32 := 29#32
  let v1326 : Index := Scalar.indexCast c29_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1327 : Index := Scalar.indexCast v4
  ![29, v1327.toNat]
def k1_off32 (k1_t1 : Fin k1_t1_loop.trips) : Fin 2 → Nat :=
  let c30_i32 : BitVec 32 := 30#32
  let v1371 : Index := Scalar.indexCast c30_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1372 : Index := Scalar.indexCast v4
  ![30, v1372.toNat]
def k1_off33 (k1_t1 : Fin k1_t1_loop.trips) : Fin 2 → Nat :=
  let c31_i32 : BitVec 32 := 31#32
  let v1416 : Index := Scalar.indexCast c31_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1417 : Index := Scalar.indexCast v4
  ![31, v1417.toNat]
def k1_off34 (k1_t1 : Fin k1_t1_loop.trips) : Fin 2 → Nat :=
  let c32_i32_53 : BitVec 32 := 32#32
  let v1461 : Index := Scalar.indexCast c32_i32_53
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1462 : Index := Scalar.indexCast v4
  ![32, v1462.toNat]
def k1_off35 (k1_t1 : Fin k1_t1_loop.trips) : Fin 2 → Nat :=
  let c33_i32 : BitVec 32 := 33#32
  let v1506 : Index := Scalar.indexCast c33_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1507 : Index := Scalar.indexCast v4
  ![33, v1507.toNat]
def k1_off36 (k1_t1 : Fin k1_t1_loop.trips) : Fin 2 → Nat :=
  let c34_i32 : BitVec 32 := 34#32
  let v1551 : Index := Scalar.indexCast c34_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1552 : Index := Scalar.indexCast v4
  ![34, v1552.toNat]
def k1_off37 (k1_t1 : Fin k1_t1_loop.trips) : Fin 2 → Nat :=
  let c35_i32 : BitVec 32 := 35#32
  let v1596 : Index := Scalar.indexCast c35_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1597 : Index := Scalar.indexCast v4
  ![35, v1597.toNat]
def k1_off38 (k1_t1 : Fin k1_t1_loop.trips) : Fin 2 → Nat :=
  let c36_i32 : BitVec 32 := 36#32
  let v1641 : Index := Scalar.indexCast c36_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1642 : Index := Scalar.indexCast v4
  ![36, v1642.toNat]
def k1_off39 (k1_t1 : Fin k1_t1_loop.trips) : Fin 2 → Nat :=
  let c37_i32 : BitVec 32 := 37#32
  let v1686 : Index := Scalar.indexCast c37_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1687 : Index := Scalar.indexCast v4
  ![37, v1687.toNat]
def k1_off40 (k1_t1 : Fin k1_t1_loop.trips) : Fin 2 → Nat :=
  let c38_i32 : BitVec 32 := 38#32
  let v1731 : Index := Scalar.indexCast c38_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1732 : Index := Scalar.indexCast v4
  ![38, v1732.toNat]
def k1_off41 (k1_t1 : Fin k1_t1_loop.trips) : Fin 2 → Nat :=
  let c39_i32 : BitVec 32 := 39#32
  let v1776 : Index := Scalar.indexCast c39_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1777 : Index := Scalar.indexCast v4
  ![39, v1777.toNat]
def k1_off42 (k1_t1 : Fin k1_t1_loop.trips) : Fin 2 → Nat :=
  let c40_i32 : BitVec 32 := 40#32
  let v1821 : Index := Scalar.indexCast c40_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1822 : Index := Scalar.indexCast v4
  ![40, v1822.toNat]
def k1_off43 (k1_t1 : Fin k1_t1_loop.trips) : Fin 2 → Nat :=
  let c41_i32 : BitVec 32 := 41#32
  let v1866 : Index := Scalar.indexCast c41_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1867 : Index := Scalar.indexCast v4
  ![41, v1867.toNat]
def k1_off44 (k1_t1 : Fin k1_t1_loop.trips) : Fin 2 → Nat :=
  let c42_i32 : BitVec 32 := 42#32
  let v1911 : Index := Scalar.indexCast c42_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1912 : Index := Scalar.indexCast v4
  ![42, v1912.toNat]
def k1_off45 (k1_t1 : Fin k1_t1_loop.trips) : Fin 2 → Nat :=
  let c43_i32 : BitVec 32 := 43#32
  let v1956 : Index := Scalar.indexCast c43_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v1957 : Index := Scalar.indexCast v4
  ![43, v1957.toNat]
def k1_off46 (k1_t1 : Fin k1_t1_loop.trips) : Fin 2 → Nat :=
  let c44_i32 : BitVec 32 := 44#32
  let v2001 : Index := Scalar.indexCast c44_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2002 : Index := Scalar.indexCast v4
  ![44, v2002.toNat]
def k1_off47 (k1_t1 : Fin k1_t1_loop.trips) : Fin 2 → Nat :=
  let c45_i32 : BitVec 32 := 45#32
  let v2046 : Index := Scalar.indexCast c45_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2047 : Index := Scalar.indexCast v4
  ![45, v2047.toNat]
def k1_off48 (k1_t1 : Fin k1_t1_loop.trips) : Fin 2 → Nat :=
  let c46_i32 : BitVec 32 := 46#32
  let v2091 : Index := Scalar.indexCast c46_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2092 : Index := Scalar.indexCast v4
  ![46, v2092.toNat]
def k1_off49 (k1_t1 : Fin k1_t1_loop.trips) : Fin 2 → Nat :=
  let c47_i32 : BitVec 32 := 47#32
  let v2136 : Index := Scalar.indexCast c47_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2137 : Index := Scalar.indexCast v4
  ![47, v2137.toNat]
def k1_off50 (k1_t1 : Fin k1_t1_loop.trips) : Fin 2 → Nat :=
  let c48_i32 : BitVec 32 := 48#32
  let v2181 : Index := Scalar.indexCast c48_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2182 : Index := Scalar.indexCast v4
  ![48, v2182.toNat]
def k1_off51 (k1_t1 : Fin k1_t1_loop.trips) : Fin 2 → Nat :=
  let c49_i32 : BitVec 32 := 49#32
  let v2226 : Index := Scalar.indexCast c49_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2227 : Index := Scalar.indexCast v4
  ![49, v2227.toNat]
def k1_off52 (k1_t1 : Fin k1_t1_loop.trips) : Fin 2 → Nat :=
  let c50_i32 : BitVec 32 := 50#32
  let v2271 : Index := Scalar.indexCast c50_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2272 : Index := Scalar.indexCast v4
  ![50, v2272.toNat]
def k1_off53 (k1_t1 : Fin k1_t1_loop.trips) : Fin 2 → Nat :=
  let c51_i32 : BitVec 32 := 51#32
  let v2316 : Index := Scalar.indexCast c51_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2317 : Index := Scalar.indexCast v4
  ![51, v2317.toNat]
def k1_off54 (k1_t1 : Fin k1_t1_loop.trips) : Fin 2 → Nat :=
  let c52_i32 : BitVec 32 := 52#32
  let v2361 : Index := Scalar.indexCast c52_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2362 : Index := Scalar.indexCast v4
  ![52, v2362.toNat]
def k1_off55 (k1_t1 : Fin k1_t1_loop.trips) : Fin 2 → Nat :=
  let c53_i32 : BitVec 32 := 53#32
  let v2406 : Index := Scalar.indexCast c53_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2407 : Index := Scalar.indexCast v4
  ![53, v2407.toNat]
def k1_off56 (k1_t1 : Fin k1_t1_loop.trips) : Fin 2 → Nat :=
  let c54_i32 : BitVec 32 := 54#32
  let v2451 : Index := Scalar.indexCast c54_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2452 : Index := Scalar.indexCast v4
  ![54, v2452.toNat]
def k1_off57 (k1_t1 : Fin k1_t1_loop.trips) : Fin 2 → Nat :=
  let c55_i32 : BitVec 32 := 55#32
  let v2496 : Index := Scalar.indexCast c55_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2497 : Index := Scalar.indexCast v4
  ![55, v2497.toNat]
def k1_off58 (k1_t1 : Fin k1_t1_loop.trips) : Fin 2 → Nat :=
  let c56_i32 : BitVec 32 := 56#32
  let v2541 : Index := Scalar.indexCast c56_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2542 : Index := Scalar.indexCast v4
  ![56, v2542.toNat]
def k1_off59 (k1_t1 : Fin k1_t1_loop.trips) : Fin 2 → Nat :=
  let c57_i32 : BitVec 32 := 57#32
  let v2586 : Index := Scalar.indexCast c57_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2587 : Index := Scalar.indexCast v4
  ![57, v2587.toNat]
def k1_off60 (k1_t1 : Fin k1_t1_loop.trips) : Fin 2 → Nat :=
  let c58_i32 : BitVec 32 := 58#32
  let v2631 : Index := Scalar.indexCast c58_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2632 : Index := Scalar.indexCast v4
  ![58, v2632.toNat]
def k1_off61 (k1_t1 : Fin k1_t1_loop.trips) : Fin 2 → Nat :=
  let c59_i32 : BitVec 32 := 59#32
  let v2676 : Index := Scalar.indexCast c59_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2677 : Index := Scalar.indexCast v4
  ![59, v2677.toNat]
def k1_off62 (k1_t1 : Fin k1_t1_loop.trips) : Fin 2 → Nat :=
  let c60_i32 : BitVec 32 := 60#32
  let v2721 : Index := Scalar.indexCast c60_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2722 : Index := Scalar.indexCast v4
  ![60, v2722.toNat]
def k1_off63 (k1_t1 : Fin k1_t1_loop.trips) : Fin 2 → Nat :=
  let c61_i32 : BitVec 32 := 61#32
  let v2766 : Index := Scalar.indexCast c61_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2767 : Index := Scalar.indexCast v4
  ![61, v2767.toNat]
def k1_off64 (k1_t1 : Fin k1_t1_loop.trips) : Fin 2 → Nat :=
  let c62_i32 : BitVec 32 := 62#32
  let v2811 : Index := Scalar.indexCast c62_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2812 : Index := Scalar.indexCast v4
  ![62, v2812.toNat]
def k1_off65 (k1_t1 : Fin k1_t1_loop.trips) : Fin 2 → Nat :=
  let c63_i32 : BitVec 32 := 63#32
  let v2856 : Index := Scalar.indexCast c63_i32
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2857 : Index := Scalar.indexCast v4
  ![63, v2857.toNat]
def k1_off66 (k1_t1 : Fin k1_t1_loop.trips) : Fin 2 → Nat :=
  let c0_i32_86 : BitVec 32 := 0#32
  let v2901 : Index := Scalar.indexCast c0_i32_86
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2902 : Index := Scalar.indexCast v4
  ![0, v2902.toNat]
def k1_off67 (k1_t1 : Fin k1_t1_loop.trips) : Fin 2 → Nat :=
  let c1_i32_88 : BitVec 32 := 1#32
  let v2911 : Index := Scalar.indexCast c1_i32_88
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2912 : Index := Scalar.indexCast v4
  ![1, v2912.toNat]
def k1_off68 (k1_t1 : Fin k1_t1_loop.trips) : Fin 2 → Nat :=
  let c2_i32_90 : BitVec 32 := 2#32
  let v2921 : Index := Scalar.indexCast c2_i32_90
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2922 : Index := Scalar.indexCast v4
  ![2, v2922.toNat]
def k1_off69 (k1_t1 : Fin k1_t1_loop.trips) : Fin 2 → Nat :=
  let c3_i32_92 : BitVec 32 := 3#32
  let v2931 : Index := Scalar.indexCast c3_i32_92
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2932 : Index := Scalar.indexCast v4
  ![3, v2932.toNat]
def k1_off70 (k1_t1 : Fin k1_t1_loop.trips) : Fin 2 → Nat :=
  let c4_i32_94 : BitVec 32 := 4#32
  let v2941 : Index := Scalar.indexCast c4_i32_94
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2942 : Index := Scalar.indexCast v4
  ![4, v2942.toNat]
def k1_off71 (k1_t1 : Fin k1_t1_loop.trips) : Fin 2 → Nat :=
  let c5_i32_96 : BitVec 32 := 5#32
  let v2951 : Index := Scalar.indexCast c5_i32_96
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2952 : Index := Scalar.indexCast v4
  ![5, v2952.toNat]
def k1_off72 (k1_t1 : Fin k1_t1_loop.trips) : Fin 2 → Nat :=
  let c6_i32_98 : BitVec 32 := 6#32
  let v2961 : Index := Scalar.indexCast c6_i32_98
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2962 : Index := Scalar.indexCast v4
  ![6, v2962.toNat]
def k1_off73 (k1_t1 : Fin k1_t1_loop.trips) : Fin 2 → Nat :=
  let c7_i32_100 : BitVec 32 := 7#32
  let v2971 : Index := Scalar.indexCast c7_i32_100
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v2972 : Index := Scalar.indexCast v4
  ![7, v2972.toNat]
def k1_off74 (i : grid1.Coords) : Fin 2 → Nat :=
  let c0_i32_2_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x2048 : Shape := ⟨3, ![4, 4096, 2048]⟩
abbrev S64x2048 : Shape := ⟨2, ![64, 2048]⟩
abbrev S16384x2048 : Shape := ⟨2, ![16384, 2048]⟩
abbrev S2048x64 : Shape := ⟨2, ![2048, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x8 : Shape := ⟨2, ![16384, 8]⟩
abbrev S4x4096x8 : Shape := ⟨3, ![4, 4096, 8]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S16384x2048, .f32⟩
  | .hbm, ⟨3, _⟩ => ⟨S2048x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S16384x8, .f32⟩
  | .hbm, ⟨20, _⟩ => ⟨S16384x8, .i32⟩
  | .hbm, ⟨21, _⟩ => ⟨S_, .f32⟩
  | .hbm, ⟨22, _⟩ => ⟨S16384x8, .f32⟩
  | .hbm, ⟨23, _⟩ => ⟨S16384x8, .f32⟩
  | .hbm, ⟨24, _⟩ => ⟨S4x4096x8, .i32⟩
  | .hbm, ⟨25, _⟩ => ⟨S4x4096x8, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Insert.lean ====
module

public import Idealize.ShloMosaic.Lib.Tactic

/-! # Insertion of a sequence of vectors into sorted slots

Lane by lane, the vectors `X 0, X 1, …` go one after another into slots `0, 1, …`. A vector meets the
slots in turn; where it is greater than what the slot holds the two change places. Beside every value
goes a word vector, the number of the vector the value came from. -/

@[expose] public section

noncomputable section

namespace Cert.Proof.Insert

open Idealize.ShloMosaic

variable {F : FTy → Type} [FloatOps F] {S : Shape}

/-- What a vector `x` is changed into by the time it reaches slot `s`, the slots holding `V`. -/
def carryV (V : ℕ → FVec F S .f32) (x : FVec F S .f32) : ℕ → FVec F S .f32
  | 0 => x
  | s + 1 => select (cmpf .ogt (carryV V x s) (V s)) (V s) (carryV V x s)

/-- The words that travel beside `carryV`. -/
def carryJ (V : ℕ → FVec F S .f32) (x : FVec F S .f32) (J : ℕ → IVec S 32) (j : IVec S 32) : ℕ → IVec S 32
  | 0 => j
  | s + 1 => select (cmpf .ogt (carryV V x s) (V s)) (J s) (carryJ V x J j s)

/-- The value every slot starts with. -/
abbrev start : FVec F S .f32 := broadcast S (Scalar.ofBits .f32 0xBF800000#32 : F .f32)

/-- The values in the slots after the first `e` vectors. -/
def slotV (X : ℕ → FVec F S .f32) : ℕ → ℕ → FVec F S .f32
  | 0 => fun _ => start
  | e + 1 => fun s => select (cmpf .ogt (carryV (slotV X e) (X e) s) (slotV X e s)) (carryV (slotV X e) (X e) s) (slotV X e s)

/-- The words in the slots after the first `e` vectors. -/
def slotJ (X : ℕ → FVec F S .f32) : ℕ → ℕ → IVec S 32
  | 0 => fun _ => broadcast S (BitVec.ofNat 32 0)
  | e + 1 => fun s => select (cmpf .ogt (carryV (slotV X e) (X e) s) (slotV X e s))
      (carryJ (slotV X e) (X e) (slotJ X e) (broadcast S (BitVec.ofNat 32 e)) s) (slotJ X e s)

/-- Vector `e` as it reaches slot `s`. -/
def cv (X : ℕ → FVec F S .f32) (e s : ℕ) : FVec F S .f32 := carryV (slotV X e) (X e) s
/-- The words beside `cv`. -/
def cj (X : ℕ → FVec F S .f32) (e s : ℕ) : IVec S 32 := carryJ (slotV X e) (X e) (slotJ X e) (broadcast S (BitVec.ofNat 32 e)) s
/-- Where vector `e` beats slot `s`. -/
def tk (X : ℕ → FVec F S .f32) (e s : ℕ) : IVec S 1 := cmpf .ogt (cv X e s) (slotV X e s)

variable (X : ℕ → FVec F S .f32) (e s : ℕ)

theorem fold_x : X e = cv X e 0 := rfl
theorem fold_j : broadcast S (BitVec.ofNat 32 e) = cj X e 0 := rfl
theorem fold_tk : cmpf .ogt (cv X e s) (slotV X e s) = tk X e s := rfl
theorem fold_V : select (tk X e s) (cv X e s) (slotV X e s) = slotV X (e + 1) s := rfl
theorem fold_J : select (tk X e s) (cj X e s) (slotJ X e s) = slotJ X (e + 1) s := rfl
theorem fold_cv : select (tk X e s) (slotV X e s) (cv X e s) = cv X e (s + 1) := rfl
theorem fold_cj : select (tk X e s) (slotJ X e s) (cj X e s) = cj X e (s + 1) := rfl

/-! The first vector meets the starting values. -/

theorem fold_tk0 : cmpf .ogt (cv X 0 s) start = tk X 0 s := rfl
theorem fold_V0 : select (tk X 0 s) (cv X 0 s) start = slotV X 1 s := rfl
theorem fold_cv0 : select (tk X 0 s) start (cv X 0 s) = cv X 0 (s + 1) := rfl

omit [FloatOps F] in
theorem select_same {α : Type} (c : IVec S 1) (z : S.Idx → α) : select c z z = z := by
  funext i; simp [select, Scalar.select]

theorem cj_zero : cj X 0 s = broadcast S (BitVec.ofNat 32 0) := by
  unfold cj
  induction s with
  | zero => rfl
  | succ s ih => rw [carryJ, ih]; exact select_same _ _

theorem slotJ_one : slotJ X 1 s = broadcast S (BitVec.ofNat 32 0) := by
  show select _ (cj X 0 s) (slotJ X 0 s) = _
  rw [cj_zero]; exact select_same _ _

theorem fold_J1 : select (tk X 1 s) (cj X 1 s) (cj X 0 0) = slotJ X 2 s := by
  rw [cj_zero, ← slotJ_one X s]; rfl
theorem fold_cj1 : select (tk X 1 s) (cj X 0 0) (cj X 1 s) = cj X 1 (s + 1) := by
  rw [cj_zero, ← slotJ_one X s]; rfl

end Cert.Proof.Insert

end
-- ==== Proof.KernelIdealTrip.lean ====
module

public import proofs.«01_k».proof.Proof.Gen.KernelIdeal
public import proofs.«01_k».proof.Proof.Insert
public import Idealize.ShloMosaic.Lib.SparseCore
public import Idealize.ShloMosaic.Lib.ValueLayout
public import Idealize.ShloMosaic.Lib.Pipeline.Value
public import Idealize.ShloMosaic.Lib.Transfers
public import Idealize.ShloMosaic.Lib.Tactic

/-! # One trip of the vector subcores' loop

The trip reads sixteen columns of the score block, inserts their 64 rows into eight slots, and stores
the slots' words and values into the same sixteen columns of the two result blocks. -/

@[expose] public section

noncomputable section

namespace Cert.Proof.KernelIdeal

open Cert.KernelIdeal Cert.KernelIdeal.Gen Cert.Proof.Insert

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

abbrev UH : Type := URounds (GSem nD τ sig) ℕ
abbrev UP : Type := URounds (GSem nD τ sig) Unit
abbrev UU : Type := UH × (UP × Counters)
local notation "𝕄" => MT nD τ sig (HIx 1) (Elt F) ℕ UU ℕ

abbrev 𝒱₀ : Variants := Variants.none

abbrev sv : Memref sig .scVector .vmem S64x512 .f32 := Memref.whole cc1_scratch0
abbrev ib : Memref sig .scVector .vmem S8x512 .i32 := Memref.whole cc1_scratch1
abbrev wb : Memref sig .scVector .vmem S8x512 .f32 := Memref.whole cc1_scratch2

/-- The vector subcore at grid point `i` of device `d`. -/
abbrev thrOf (d : Dev nD) (i : grid1.Coords) : Thread nD τ := V d ((i 0).castLE hcore1) ((i 1).castLE hsub1)

abbrev BufS : Type := S64x512.Idx → F .f32
abbrev BufI : Type := S8x512.Idx → BitVec 32
abbrev BufW : Type := S8x512.Idx → F .f32

variable (d : Dev nD) (i : grid1.Coords)

/-- The three scratch blocks of a subcore, with their contents. -/
def Held (f5 : BufS (F := F)) (f6 : BufI) (f7 : BufW (F := F)) : sProp 𝕄 :=
  iprop(((sv).view.loc (thrOf d i) ↦{fullShare} (f5 : Buf (Elt F) ((sv).view.loc (thrOf d i)))) ∗ ((ib).view.loc (thrOf d i) ↦{fullShare} (f6 : Buf (Elt F) ((ib).view.loc (thrOf d i))))
    ∗ ((wb).view.loc (thrOf d i) ↦{fullShare} (f7 : Buf (Elt F) ((wb).view.loc (thrOf d i)))))

/-- From the blocks `(f5, f6, f7)` the program `p` returns `a` and leaves `(f5, g6, g7)`. -/
def Runs (f5 : BufS (F := F)) (f6 : BufI) (f7 : BufW (F := F)) {α : Type}
    (p : Prog (TpuEff nD τ sig (Elt F) Λ₀ (.scVector ((i 0).castLE hcore1) ((i 1).castLE hsub1))) α) (a : α) (g6 : BufI) (g7 : BufW (F := F)) : Prop :=
  ∀ Q : α → sProp 𝕄, iprop(Held d i f5 f6 f7 ∗ (Held d i f5 g6 g7 -∗ Q a))
    ⊢ wp frame (wpE (defs₀ (F := F)) 𝒱₀ (thrOf d i) none) Set.univ p Q

variable {d i} {f5 : BufS (F := F)} {f6 g6 h6 : BufI} {f7 g7 h7 : BufW (F := F)} {α β : Type}

theorem Runs.bind {p : Prog (TpuEff nD τ sig (Elt F) Λ₀ (.scVector ((i 0).castLE hcore1) ((i 1).castLE hsub1))) α}
    {k : α → Prog (TpuEff nD τ sig (Elt F) Λ₀ (.scVector ((i 0).castLE hcore1) ((i 1).castLE hsub1))) β} {a : α} {b : β}
    (hp : Runs d i f5 f6 f7 p a g6 g7) (hk : Runs d i f5 g6 g7 (k a) b h6 h7) : Runs d i f5 f6 f7 (p >>= k) b h6 h7 := by
  intro Q
  rw [wp_bind]
  refine .trans ?_ (hp _)
  iintro ⟨H, HQ⟩
  isplitl [H]
  · iexact H
  · iintro H
    iapply (hk Q)
    isplitl [H]
    · iexact H
    · iexact HQ

theorem Runs.ret {t a : α} (h : t = a) :
    Runs d i f5 f6 f7 (pure t : Prog (TpuEff nD τ sig (Elt F) Λ₀ (.scVector ((i 0).castLE hcore1) ((i 1).castLE hsub1))) α) a f6 f7 := by
  subst h
  intro Q
  rw [wp_pure]
  refine .trans ?_ fupd_intro
  iintro ⟨H, HQ⟩
  iapply HQ $$ H

/-- Row `p`, columns `16 t` to `16 t + 15` of a block. -/
def piece {n : ℕ} [NeZero n] {α : Type} (f : (⟨2, ![n, 512]⟩ : Shape).Idx → α) (t p : ℕ) : S16.Idx → α :=
  fun l => f (ix2 (Fin.ofNat n p) (Fin.ofNat 512 (16 * t + (l 0).val)))

/-- A load of one row's sixteen columns from a whole block. -/
theorem load_piece {n : ℕ} [NeZero n] {α : Type} (f : (⟨2, ![n, 512]⟩ : Shape).Idx → α) (off : Fin 2 → ℕ) [co : ClosedOff off]
    (inb : ∀ a, off a + S1x16.size a ≤ (⟨2, ![n, 512]⟩ : Shape).size a) (p t : ℕ) (h : co.form = ![p, 16 * t]) :
    (fun x => f ((Rect.unit (s := ⟨2, ![n, 512]⟩) off S1x16.size inb).toLoadRect.idx x)) = shapeCast S1x16 (piece f t p) shapeCasts_S16_S1x16 := by
  obtain rfl : off = ![p, 16 * t] := co.eq.trans h
  funext x
  obtain ⟨u, l, rfl⟩ : ∃ u l, x = ix2 u l := ⟨x 0, x 1, eq_ix2 x⟩
  have h0 : p + 1 ≤ n := inb 0
  have h1 : 16 * t + 16 ≤ 512 := inb 1
  have hl := l.isLt
  have hu : u.val = 0 := by have := u.isLt; omega
  rw [shapeCast_a_1a_apply]
  unfold piece
  congr 1
  funext a
  apply Fin.ext
  match a with
  | 0 => show p + 1 * u.val = p % n; rw [Nat.mod_eq_of_lt (by omega)]; omega
  | 1 => show 16 * t + 1 * l.val = (16 * t + l.val) % 512; rw [Nat.mod_eq_of_lt (by omega)]; omega

/-- The row `p` of a block with `w` put into columns `16 t` to `16 t + 15`. -/
def put {n : ℕ} {α : Type} (f : (⟨2, ![n, 512]⟩ : Shape).Idx → α) (t p : ℕ) (w : S16.Idx → α) : (⟨2, ![n, 512]⟩ : Shape).Idx → α :=
  fun x => if (x 0).val = p ∧ (x 1).val / 16 = t then w (ix1 (Fin.ofNat 16 (x 1).val)) else f x

theorem put_updateSlice {n : ℕ} {α : Type} (f : (⟨2, ![n, 512]⟩ : Shape).Idx → α) (off : Fin 2 → ℕ) [co : ClosedOff off]
    (inb : ∀ a, off a + S1x16.size a ≤ (⟨2, ![n, 512]⟩ : Shape).size a) (p t : ℕ) (h : co.form = ![p, 16 * t]) (w : S16.Idx → α) :
    updateSlice f (shapeCast S1x16 w shapeCasts_S16_S1x16) off ⟨rfl, inb⟩ = put f t p w := by
  obtain rfl : off = ![p, 16 * t] := co.eq.trans h
  funext x
  unfold updateSlice put
  split
  · next hin =>
    have h0 : p ≤ (x 0).val ∧ (x 0).val < p + 1 := hin 0
    have h1 : 16 * t ≤ (x 1).val ∧ (x 1).val < 16 * t + 16 := hin 1
    rw [if_pos ⟨by omega, by omega⟩]
    have : ∀ y : S1x16.Idx, (y 1).val = (x 1).val - 16 * t → shapeCast S1x16 w shapeCasts_S16_S1x16 y = w (ix1 (Fin.ofNat 16 (x 1).val)) := by
      intro y hy
      obtain ⟨u, l, rfl⟩ : ∃ u l, y = ix2 u l := ⟨y 0, y 1, eq_ix2 y⟩
      rw [shapeCast_a_1a_apply]
      congr 2
      apply Fin.ext
      have hy' : l.val = (x 1).val - 16 * t := hy
      show l.val = (x 1).val % 16
      omega
    exact this _ rfl
  · next hout =>
    rw [if_neg]
    rintro ⟨h0, h1⟩
    apply hout
    intro a
    match a with
    | 0 => exact ⟨le_of_eq h0.symm, by show (x 0).val < p + 1; omega⟩
    | 1 => exact ⟨by show 16 * t ≤ (x 1).val; omega, by show (x 1).val < 16 * t + 16; omega⟩

theorem cast_cast (x : S16.Idx → α) : shapeCast S16 (shapeCast S1x16 x shapeCasts_S16_S1x16) shapeCasts_S1x16_S16 = x := by
  funext l
  obtain ⟨l, rfl⟩ : ∃ u, l = ix1 u := ⟨l 0, eq_ix1 l⟩
  rw [shapeCast_1a_a_apply, shapeCast_a_1a_apply]

theorem Runs.load5 {off : Fin 2 → ℕ} [co : ClosedOff off] {inb : ∀ a, off a + S1x16.size a ≤ S64x512.size a} {hl} {p t : ℕ} (h : co.form = ![p, 16 * t]) :
    Runs d i f5 f6 f7 (Prog.lift (.load sv (Rect.unit (s := S64x512) off S1x16.size inb).toLoadRect hl)) (shapeCast S1x16 (piece f5 t p) shapeCasts_S16_S1x16) f6 f7 := by
  intro Q
  unfold Held
  iintro ⟨⟨H5, H6, H7⟩, HQ⟩
  iapply (wp_load 𝒱₀ (thrOf d i) none Set.univ (m := sv) (S := Finset.univ) (Finset.subset_univ _)) $$ H5
  iintro H5
  rw [wp_ret]
  iapply fupd_intro
  have e : (sv.view.readAt (Elt F) (Rect.unit (s := S64x512) off S1x16.size inb).toLoadRect f5) = shapeCast S1x16 (piece f5 t p) shapeCasts_S16_S1x16 := load_piece f5 off inb p t h
  rw [e]
  iapply HQ
  isplitl [H5]
  · iexact H5
  · isplitl [H6]
    · iexact H6
    · iexact H7

theorem Runs.load6 {r : LoadRect S8x512} {hl} : Runs d i f5 f6 f7 (Prog.lift (.load ib r hl)) ((ib).view.readAt (Elt F) r f6) f6 f7 := by
  intro Q
  unfold Held
  iintro ⟨⟨H5, H6, H7⟩, HQ⟩
  iapply (wp_load 𝒱₀ (thrOf d i) none Set.univ (m := ib) (S := Finset.univ) (Finset.subset_univ _)) $$ H6
  iintro H6
  rw [wp_ret]
  iapply fupd_intro
  iapply HQ
  isplitl [H5]
  · iexact H5
  · isplitl [H6]
    · iexact H6
    · iexact H7

theorem Runs.load7 {r : LoadRect S8x512} {hl} : Runs d i f5 f6 f7 (Prog.lift (.load wb r hl)) ((wb).view.readAt (Elt F) r f7) f6 f7 := by
  intro Q
  unfold Held
  iintro ⟨⟨H5, H6, H7⟩, HQ⟩
  iapply (wp_load 𝒱₀ (thrOf d i) none Set.univ (m := wb) (S := Finset.univ) (Finset.subset_univ _)) $$ H7
  iintro H7
  rw [wp_ret]
  iapply fupd_intro
  iapply HQ
  isplitl [H5]
  · iexact H5
  · isplitl [H6]
    · iexact H6
    · iexact H7

theorem Runs.store6 {off : Fin 2 → ℕ} [co : ClosedOff off] {inb : ∀ a, off a + S1x16.size a ≤ S8x512.size a} {v : IVec S1x16 32} {w : IVec S16 32} {hx hm} {p t : ℕ} (hv : v = shapeCast S1x16 w shapeCasts_S16_S1x16) (h : co.form = ![p, 16 * t]) :
    Runs d i f5 f6 f7 (Prog.lift (.store ib (Rect.unit (s := S8x512) off S1x16.size inb) v Finset.univ hx hm)) ⟨⟩ (put f6 t p w) f7 := by
  subst hv
  intro Q
  unfold Held
  iintro ⟨⟨H5, H6, H7⟩, HQ⟩
  iapply (wp_store 𝒱₀ (thrOf d i) none Set.univ (m := ib) (r := Rect.unit (s := S8x512) off S1x16.size inb) (Mk := Finset.univ) (S := Finset.univ) (Finset.subset_univ _)) $$ H6
  iintro H6
  rw [wp_ret]
  iapply fupd_intro
  have e : ((ib).access (Rect.unit (s := S8x512) off S1x16.size inb)).write (Elt F) f6 (shapeCast S1x16 w shapeCasts_S16_S1x16) Finset.univ = put f6 t p w :=
    (View.write_whole_slice_unit (Val := Elt F) cc1_scratch1 off S1x16.size inb f6 (shapeCast S1x16 w shapeCasts_S16_S1x16)).trans (put_updateSlice (n := 8) f6 off inb p t h w)
  rw [e]
  iapply HQ
  isplitl [H5]
  · iexact H5
  · isplitl [H6]
    · iexact H6
    · iexact H7

theorem Runs.store7 {off : Fin 2 → ℕ} [co : ClosedOff off] {inb : ∀ a, off a + S1x16.size a ≤ S8x512.size a} {v : FVec F S1x16 .f32} {w : FVec F S16 .f32} {hx hm} {p t : ℕ} (hv : v = shapeCast S1x16 w shapeCasts_S16_S1x16) (h : co.form = ![p, 16 * t]) :
    Runs d i f5 f6 f7 (Prog.lift (.store wb (Rect.unit (s := S8x512) off S1x16.size inb) v Finset.univ hx hm)) ⟨⟩ f6 (put f7 t p w) := by
  subst hv
  intro Q
  unfold Held
  iintro ⟨⟨H5, H6, H7⟩, HQ⟩
  iapply (wp_store 𝒱₀ (thrOf d i) none Set.univ (m := wb) (r := Rect.unit (s := S8x512) off S1x16.size inb) (Mk := Finset.univ) (S := Finset.univ) (Finset.subset_univ _)) $$ H7
  iintro H7
  rw [wp_ret]
  iapply fupd_intro
  have e : ((wb).access (Rect.unit (s := S8x512) off S1x16.size inb)).write (Elt F) f7 (shapeCast S1x16 w shapeCasts_S16_S1x16) Finset.univ = put f7 t p w :=
    (View.write_whole_slice_unit (Val := Elt F) cc1_scratch2 off S1x16.size inb f7 (shapeCast S1x16 w shapeCasts_S16_S1x16)).trans (put_updateSlice (n := 8) f7 off inb p t h w)
  rw [e]
  iapply HQ
  isplitl [H5]
  · iexact H5
  · isplitl [H6]
    · iexact H6
    · iexact H7

/-- A block with `w p` put into columns `16 t` to `16 t + 15` of each of its first `k` rows. -/
def puts {n : ℕ} {α : Type} (f : (⟨2, ![n, 512]⟩ : Shape).Idx → α) (t : ℕ) (w : ℕ → S16.Idx → α) : ℕ → (⟨2, ![n, 512]⟩ : Shape).Idx → α
  | 0 => f
  | k + 1 => put (puts f t w k) t k (w k)

set_option maxHeartbeats 4000000 in
/-- The trip up to its last two rows: each of the printed parts is run in turn, and what it returns is
    read as the slots and the vector on its way through them. -/
theorem trip_part (t : Fin k1_t1_loop.trips) (c0 c1 : BitVec 32) (b2 : Memref sig .scVector .hbm S64x16384 .f32) (h2) (b3) (h3) (b4) (h4) (h5) (h6) (h7) (q0 q1 q2) :
    Runs d i f5 f6 f7 (k1_part53 i b2 h2 b3 h3 b4 h4 sv h5 ib h6 wb h7 q0 q1 q2 c0 c1 t)
      ⟨Scalar.muli (Scf.iv c0 c1 t) 16#32, slotV (piece f5 t.val) 64 6, slotJ (piece f5 t.val) 64 6, slotV (piece f5 t.val) 64 7, slotJ (piece f5 t.val) 64 7, 6#32⟩
      (puts (n := 8) f6 t.val (slotJ (piece f5 t.val) 64) 6) (puts (n := 8) f7 t.val (slotV (piece f5 t.val) 64) 6) := by
  unfold k1_part53
  iterate 52
    apply Runs.bind
    · repeat
        apply Runs.bind
        first
          | with_reducible apply Runs.load5
            rfl
          | with_reducible exact Runs.load6
          | with_reducible exact Runs.load7
          | with_reducible apply Runs.store6
            · try simp only [cast_cast, fold_x (piece f5 t.val), fold_j (piece f5 t.val), fold_tk, fold_V, fold_J, fold_cv, fold_cj, fold_tk0, fold_V0, fold_cv0, select_same, fold_J1, fold_cj1, Nat.reduceAdd]
              rfl
            · rfl
          | with_reducible apply Runs.store7
            · try simp only [cast_cast, fold_x (piece f5 t.val), fold_j (piece f5 t.val), fold_tk, fold_V, fold_J, fold_cv, fold_cj, fold_tk0, fold_V0, fold_cv0, select_same, fold_J1, fold_cj1, Nat.reduceAdd]
              rfl
            · rfl
      apply Runs.ret
      try simp only [cast_cast, fold_x (piece f5 t.val), fold_j (piece f5 t.val), fold_tk, fold_V, fold_J, fold_cv, fold_cj, fold_tk0, fold_V0, fold_cv0, select_same, fold_J1, fold_cj1, Nat.reduceAdd]
      rfl
  refine Runs.bind Runs.load7 ?_
  refine Runs.bind (Runs.store7 rfl rfl) ?_
  exact Runs.ret rfl

end Cert.Proof.KernelIdeal

end
-- ==== Proof.KernelIdealTile.lean ====
module

public import proofs.«01_k».proof.Proof.KernelIdealTrip
public import Idealize.ShloMosaic.Lib.SparseCore.Quiescent
public import Idealize.ShloMosaic.Lib.StableHlo.Run
public import Idealize.ShloMosaic.Lib.Pipeline.Kit
public import Idealize.ShloMosaic.Lib.Tactic

/-! # One subcore's task

A subcore takes 512 columns of the score array, runs the 32 trips over them, and writes the words and
the values of the eight slots of every column into its 512 columns of the two result arrays. -/

@[expose] public section

noncomputable section

namespace Cert.Proof.KernelIdeal

open Cert.KernelIdeal Cert.KernelIdeal.Gen Cert.Proof.Insert

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Tactic

variable {F : FTy → Type} [FloatOps F]

local notation "𝕄" => MT nD τ sig (HIx 1) (Elt F) ℕ UU ℕ

/-! ## The two result arrays as functions of the score array -/

/-- Row `p`, columns `16 t` to `16 t + 15` of a block of any width. -/
def lanes {w : ℕ} [NeZero w] {α : Type} (f : (⟨2, ![64, w]⟩ : Shape).Idx → α) (t p : ℕ) : S16.Idx → α :=
  fun l => f (ix2 (Fin.ofNat 64 p) (Fin.ofNat w (16 * t + (l 0).val)))

/-- The words the slots of a column end with. -/
def outJ {w : ℕ} [NeZero w] (f : (⟨2, ![64, w]⟩ : Shape).Idx → F .f32) : (⟨2, ![8, w]⟩ : Shape).Idx → BitVec 32 :=
  fun x => slotJ (lanes f ((x 1).val / 16)) 64 (x 0).val (ix1 (Fin.ofNat 16 (x 1).val))

/-- The values the slots of a column end with. -/
def outV {w : ℕ} [NeZero w] (f : (⟨2, ![64, w]⟩ : Shape).Idx → F .f32) : (⟨2, ![8, w]⟩ : Shape).Idx → F .f32 :=
  fun x => slotV (lanes f ((x 1).val / 16)) 64 (x 0).val (ix1 (Fin.ofNat 16 (x 1).val))

/-- `g` on the first `16 t` columns, `f` on the rest. -/
def upto {α : Type} (f g : (⟨2, ![8, 512]⟩ : Shape).Idx → α) (t : ℕ) : (⟨2, ![8, 512]⟩ : Shape).Idx → α :=
  fun x => if (x 1).val / 16 < t then g x else f x

theorem upto_zero {α : Type} (f g : (⟨2, ![8, 512]⟩ : Shape).Idx → α) : upto f g 0 = f := by
  funext x; simp [upto]

theorem upto_all {α : Type} (f g : (⟨2, ![8, 512]⟩ : Shape).Idx → α) : upto f g 32 = g := by
  funext x
  have : (x 1).val < 512 := (x 1).isLt
  unfold upto
  rw [if_pos (by omega)]

theorem puts_apply {n : ℕ} {α : Type} (f : (⟨2, ![n, 512]⟩ : Shape).Idx → α) (t : ℕ) (w : ℕ → S16.Idx → α) (k : ℕ) (x : (⟨2, ![n, 512]⟩ : Shape).Idx) :
    puts f t w k x = if (x 0).val < k ∧ (x 1).val / 16 = t then w (x 0).val (ix1 (Fin.ofNat 16 (x 1).val)) else f x := by
  induction k with
  | zero => simp [puts]
  | succ k ih =>
    unfold puts put
    rw [ih]
    by_cases h1 : (x 1).val / 16 = t
    · by_cases h0 : (x 0).val = k
      · rw [if_pos ⟨h0, h1⟩, if_pos ⟨by omega, h1⟩, h0]
      · rw [if_neg (fun h => h0 h.1)]
        congr 1
        apply propext
        constructor <;> rintro ⟨a, b⟩ <;> exact ⟨by omega, b⟩
    · rw [if_neg (fun h => h1 h.2), if_neg (fun h => h1 h.2), if_neg (fun h => h1 h.2)]

theorem puts_upto {α : Type} (f g : (⟨2, ![8, 512]⟩ : Shape).Idx → α) (t : ℕ) (w : ℕ → S16.Idx → α)
    (h : ∀ x : (⟨2, ![8, 512]⟩ : Shape).Idx, (x 1).val / 16 = t → g x = w (x 0).val (ix1 (Fin.ofNat 16 (x 1).val))) :
    puts (upto f g t) t w 8 = upto f g (t + 1) := by
  funext x
  have h0 : (x 0).val < 8 := (x 0).isLt
  rw [puts_apply]
  unfold upto
  by_cases h1 : (x 1).val / 16 = t
  · rw [if_pos ⟨h0, h1⟩, if_pos (by omega), h x h1]
  · rw [if_neg (fun h => h1 h.2)]
    congr 1
    apply propext
    omega

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "xV" => (Memref.whole Cert.KernelIdeal.main_v1_scv : Memref Cert.KernelIdeal.sig Kind.scVector Space.hbm Cert.KernelIdeal.S64x16384 EltTy.f32)
local notation "jV" => (Memref.whole Cert.KernelIdeal.main_v2_0_scv : Memref Cert.KernelIdeal.sig Kind.scVector Space.hbm Cert.KernelIdeal.S8x16384 EltTy.i32)
local notation "wV" => (Memref.whole Cert.KernelIdeal.main_v2_1_scv : Memref Cert.KernelIdeal.sig Kind.scVector Space.hbm Cert.KernelIdeal.S8x16384 EltTy.f32)
local notation "svV" => (Memref.whole Cert.KernelIdeal.cc1_scratch0 : Memref Cert.KernelIdeal.sig Kind.scVector Space.vmem Cert.KernelIdeal.S64x512 EltTy.f32)
local notation "ibV" => (Memref.whole Cert.KernelIdeal.cc1_scratch1 : Memref Cert.KernelIdeal.sig Kind.scVector Space.vmem Cert.KernelIdeal.S8x512 EltTy.i32)
local notation "wbV" => (Memref.whole Cert.KernelIdeal.cc1_scratch2 : Memref Cert.KernelIdeal.sig Kind.scVector Space.vmem Cert.KernelIdeal.S8x512 EltTy.f32)

section Tile

variable (d : Dev nD) (i : grid1.Coords)

abbrev xCols (i : grid1.Coords) : Memref sig .scVector .hbm S64x512 .f32 := (xV).slice (Rect.unit (s := S64x16384) (k1_off1 i) S64x512.size (k1_off1_inb i)) (fun _ => rfl)
abbrev jCols (i : grid1.Coords) : Memref sig .scVector .hbm S8x512 .i32 := (jV).slice (Rect.unit (s := S8x16384) (k1_off74 i) S8x512.size (k1_off74_inb i)) (fun _ => rfl)
abbrev wCols (i : grid1.Coords) : Memref sig .scVector .hbm S8x512 .f32 := (wV).slice (Rect.unit (s := S8x16384) (k1_off74 i) S8x512.size (k1_off74_inb i)) (fun _ => rfl)

/-- The three semaphore cells the copies use. -/
abbrev cell0 (d : Dev nD) (i : grid1.Coords) : GSem nD τ sig := (thrOf d i, .dma cc1_scoped0.sem)
abbrev cell1 (d : Dev nD) (i : grid1.Coords) : GSem nD τ sig := (thrOf d i, .dma cc1_scoped1.sem)
abbrev cell2 (d : Dev nD) (i : grid1.Coords) : GSem nD τ sig := (thrOf d i, .dma cc1_scoped2.sem)

/-- The first column of subcore `i`. -/
def base (i : grid1.Coords) : ℕ := 1024 * (i 1).val + 512 * (i 0).val

theorem base_lt (i : grid1.Coords) : base i + 512 ≤ 16384 := by
  have h0 : (i 0).val < 2 := (i 0).isLt
  have h1 : (i 1).val < 16 := (i 1).isLt
  unfold base; omega

/-- Its 512 columns of the score array. -/
def block (fx : S64x16384.Idx → F .f32) (i : grid1.Coords) : BufS (F := F) :=
  fun x => fx (ix2 (x 0) (Fin.ofNat 16384 (base i + (x 1).val)))

theorem block_in {fx : S64x16384.Idx → F .f32} {i : grid1.Coords} {f5 : BufS (F := F)} :
    View.write (Elt F) (svV).view f5 (View.read (Elt F) (xCols i).view fx) Finset.univ = block fx i := by
  have hb := base_lt i
  refine (View.write_whole_univ _ _ _).trans ?_
  funext x
  have h1 : (x 1).val < 512 := (x 1).isLt
  refine congrArg fx ?_
  funext a
  apply Fin.ext
  match a with
  | 0 =>
    show (k1_off1 i) 0 + 1 * (x 0).val = (x 0).val
    rw [k1_off1_eq]
    show 0 + 1 * (x 0).val = (x 0).val
    omega
  | 1 =>
    show (k1_off1 i) 1 + 1 * (x 1).val = (base i + (x 1).val) % 16384
    rw [k1_off1_eq, Nat.mod_eq_of_lt (by omega)]
    show 1024 * (i 1).val + 512 * (i 0).val + 1 * (x 1).val = _
    unfold base; omega

theorem lanes_block (fx : S64x16384.Idx → F .f32) (i : grid1.Coords) (c : ℕ) (hc : c < 512) :
    lanes (block fx i) (c / 16) = lanes fx ((base i + c) / 16) := by
  have hb := base_lt i
  funext p l
  have hl : (l 0).val < 16 := (l 0).isLt
  have h16 : base i = 16 * (64 * (i 1).val + 32 * (i 0).val) := by unfold base; omega
  unfold lanes block
  congr 1
  funext a
  match a with
  | 0 => rfl
  | 1 =>
    apply Fin.ext
    show (base i + (16 * (c / 16) + (l 0).val) % 512) % 16384 = (16 * ((base i + c) / 16) + (l 0).val) % 16384
    rw [Nat.mod_eq_of_lt (a := 16 * (c / 16) + (l 0).val) (by omega)]
    congr 1
    omega

/-- Column `c` of the subcore's block, seen as a column of the whole. -/
theorem out_idx (i : grid1.Coords) (x : S8x512.Idx) :
    (Rect.unit (s := S8x16384) (k1_off74 i) S8x512.size (k1_off74_inb i)).emb x = ix2 (x 0) (Fin.ofNat 16384 (base i + (x 1).val)) := by
  have hb := base_lt i
  have h1 : (x 1).val < 512 := (x 1).isLt
  funext a
  apply Fin.ext
  match a with
  | 0 =>
    show (k1_off74 i) 0 + 1 * (x 0).val = (x 0).val
    rw [k1_off74_eq]
    show 0 + 1 * (x 0).val = (x 0).val
    omega
  | 1 =>
    show (k1_off74 i) 1 + 1 * (x 1).val = (base i + (x 1).val) % 16384
    rw [k1_off74_eq, Nat.mod_eq_of_lt (by omega)]
    show 1024 * (i 1).val + 512 * (i 0).val + 1 * (x 1).val = _
    unfold base; omega

theorem ofNat_col (i : grid1.Coords) (c : ℕ) (hc : c < 512) : Fin.ofNat 16 ((base i + c) % 16384) = Fin.ofNat 16 c := by
  have hb := base_lt i
  have h16 : base i = 16 * (64 * (i 1).val + 32 * (i 0).val) := by unfold base; omega
  apply Fin.ext
  show (base i + c) % 16384 % 16 = c % 16
  omega

theorem outJ_block (fx : S64x16384.Idx → F .f32) (i : grid1.Coords) (x : S8x512.Idx) :
    outJ fx (ix2 (x 0) (Fin.ofNat 16384 (base i + (x 1).val))) = outJ (block fx i) x := by
  have hb := base_lt i
  have h1 : (x 1).val < 512 := (x 1).isLt
  unfold outJ
  rw [lanes_block fx i _ h1]
  show slotJ (lanes fx ((base i + (x 1).val) % 16384 / 16)) 64 (x 0).val (ix1 (Fin.ofNat 16 ((base i + (x 1).val) % 16384))) = _
  rw [ofNat_col i _ h1, Nat.mod_eq_of_lt (by omega)]

theorem outV_block (fx : S64x16384.Idx → F .f32) (i : grid1.Coords) (x : S8x512.Idx) :
    outV fx (ix2 (x 0) (Fin.ofNat 16384 (base i + (x 1).val))) = outV (block fx i) x := by
  have hb := base_lt i
  have h1 : (x 1).val < 512 := (x 1).isLt
  unfold outV
  rw [lanes_block fx i _ h1]
  show slotV (lanes fx ((base i + (x 1).val) % 16384 / 16)) 64 (x 0).val (ix1 (Fin.ofNat 16 ((base i + (x 1).val) % 16384))) = _
  rw [ofNat_col i _ h1, Nat.mod_eq_of_lt (by omega)]

theorem block_outJ (fj : S8x16384.Idx → BitVec 32) (fx : S64x16384.Idx → F .f32) (i : grid1.Coords) :
    ∀ y ∈ (jCols i).view.set, (jCols i).view.writes (Elt F) fj [⟨Rect.whole S8x512, View.read (Elt F) (ibV).view (outJ (block fx i))⟩] y = outJ fx y := by
  intro y hy
  obtain ⟨x, -, rfl⟩ := Finset.mem_map.mp hy
  have h := View.write_emb_of_mem (Val := Elt F) (v := (jCols i).view.slice (Rect.whole S8x512)) fj (outJ (block fx i)) (Finset.mem_univ x)
  have e : ((jCols i).view.slice (Rect.whole S8x512)).emb x = (jCols i).view.emb x := congrArg (jCols i).view.emb (show (Rect.whole S8x512).emb x = x from Rect.emb_whole_apply S8x512 x)
  rw [e] at h
  refine h.trans ?_
  have e2 : (jCols i).view.emb x = ix2 (x 0) (Fin.ofNat 16384 (base i + (x 1).val)) := out_idx i x
  rw [e2]
  exact (outJ_block fx i x).symm

theorem block_outV (fw : S8x16384.Idx → F .f32) (fx : S64x16384.Idx → F .f32) (i : grid1.Coords) :
    ∀ y ∈ (wCols i).view.set, (wCols i).view.writes (Elt F) fw [⟨Rect.whole S8x512, View.read (Elt F) (wbV).view (outV (block fx i))⟩] y = outV fx y := by
  intro y hy
  obtain ⟨x, -, rfl⟩ := Finset.mem_map.mp hy
  have h := View.write_emb_of_mem (Val := Elt F) (v := (wCols i).view.slice (Rect.whole S8x512)) fw (outV (block fx i)) (Finset.mem_univ x)
  have e : ((wCols i).view.slice (Rect.whole S8x512)).emb x = (wCols i).view.emb x := congrArg (wCols i).view.emb (show (Rect.whole S8x512).emb x = x from Rect.emb_whole_apply S8x512 x)
  rw [e] at h
  refine h.trans ?_
  have e2 : (wCols i).view.emb x = ix2 (x 0) (Fin.ofNat 16384 (base i + (x 1).val)) := out_idx i x
  rw [e2]
  exact (outV_block fx i x).symm

theorem tile_core (O : CellTallies nD τ sig (HIx 1)) (W : Waits sig (HIx 1)) (fx : S64x16384.Idx → F .f32) (fj : S8x16384.Idx → BitVec 32) (fw : S8x16384.Idx → F .f32)
    (f5 : BufS (F := F)) (f6 : BufI) (f7 : BufW (F := F)) :
    iprop(Transfers.MayWaits (thrOf d i) (default : HIx 1) O
        ∗ ((xCols i).view.loc (thrOf d i) ↦[(xCols i).view.set]{fullShare} (fx : Buf (Elt F) ((xCols i).view.loc (thrOf d i))))
        ∗ ((jCols i).view.loc (thrOf d i) ↦[(jCols i).view.set]{fullShare} (fj : Buf (Elt F) ((jCols i).view.loc (thrOf d i))))
        ∗ ((wCols i).view.loc (thrOf d i) ↦[(wCols i).view.set]{fullShare} (fw : Buf (Elt F) ((wCols i).view.loc (thrOf d i))))
        ∗ ((sv).view.loc (thrOf d i) ↦{fullShare} (f5 : Buf (Elt F) ((sv).view.loc (thrOf d i))))
        ∗ ((ib).view.loc (thrOf d i) ↦{fullShare} (f6 : Buf (Elt F) ((ib).view.loc (thrOf d i))))
        ∗ ((wb).view.loc (thrOf d i) ↦{fullShare} (f7 : Buf (Elt F) ((wb).view.loc (thrOf d i))))
        ∗ semVal (cell0 d i) 0 ∗ semVal (cell1 d i) 0 ∗ semVal (cell2 d i) 0
        ∗ owes (thrOf d i) O W)
      ⊢ (wp frame (wpE (defs₀ (F := F)) 𝒱₀ (thrOf d i) none) Set.univ
          (cc1_body i xV (Memref.isWhole_whole _) jV (Memref.isWhole_whole _) wV (Memref.isWhole_whole _)
            svV (Memref.isWhole_whole _) ibV (Memref.isWhole_whole _) wbV (Memref.isWhole_whole _) cc1_scoped0 cc1_scoped1 cc1_scoped2)
          fun _ => iprop(((xCols i).view.loc (thrOf d i) ↦[(xCols i).view.set]{fullShare} (fx : Buf (Elt F) ((xCols i).view.loc (thrOf d i))))
            ∗ ((jCols i).view.loc (thrOf d i) ↦[(jCols i).view.set]{fullShare} (outJ fx : Buf (Elt F) ((jCols i).view.loc (thrOf d i))))
            ∗ ((wCols i).view.loc (thrOf d i) ↦[(wCols i).view.set]{fullShare} (outV fx : Buf (Elt F) ((wCols i).view.loc (thrOf d i))))
            ∗ (∃ f, (thrOf d i).loc cc1_scratch0 ↦{fullShare} f) ∗ (∃ f, (thrOf d i).loc cc1_scratch1 ↦{fullShare} f) ∗ (∃ f, (thrOf d i).loc cc1_scratch2 ↦{fullShare} f)
            ∗ semVal (cell0 d i) 0 ∗ semVal (cell1 d i) 0 ∗ semVal (cell2 d i) 0
            ∗ ∃ W', owes (thrOf d i) O W') : sProp 𝕄) := by
  iintro ⟨#Hmw, Hx, Hj, Hw, H5, H6, H7, Hc0, Hc1, Hc2, HO⟩
  sl_unfold [cc1_body]
  sl_exec (disch := exact View.amount_pos _ _ (show 0 < S64x512.numel by decide))
  ihave H5' := (show ((sv).view.loc (thrOf d i) ↦{fullShare} (View.write (Elt F) (svV).view f5 (tile_core.sl.dma0 i fx) Finset.univ : Buf (Elt F) ((sv).view.loc (thrOf d i))) : sProp 𝕄)
      ⊢ ((sv).view.loc (thrOf d i) ↦{fullShare} (block fx i : Buf (Elt F) ((sv).view.loc (thrOf d i)))) from
    Entails.of_eq (congrArg (fun f : Buf (Elt F) ((sv).view.loc (thrOf d i)) => ((sv).view.loc (thrOf d i) ↦{fullShare} f : sProp 𝕄)) block_in)) $$ H5
  sl_for (fun k _ => Held d i (block fx i) (upto f6 (outJ (block fx i)) k) (upto f7 (outV (block fx i)) k)) $$ [H5' H6 H7]
  case region =>
    intro k _
    suffices h : Runs d i (block fx i) (upto f6 (outJ (block fx i)) k) (upto f7 (outV (block fx i)) k) (tile_core.sl.prog.body_1 i k ⟨⟩) ⟨⟩
        (upto f6 (outJ (block fx i)) (k + 1)) (upto f7 (outV (block fx i)) (k + 1)) by
      refine .trans ?_ (h _)
      iintro H
      isplitl [H]
      · iexact H
      · iintro H
        iexact H
    rw [← puts_upto f6 (outJ (block fx i)) k (slotJ (piece (block fx i) k) 64) ?_, ← puts_upto f7 (outV (block fx i)) k (slotV (piece (block fx i) k) 64) ?_]
    · apply Runs.bind
      · exact trip_part k _ _ _ _ _ _ _ _ _ _ _ _ _ _
      refine Runs.bind Runs.load6 ?_
      refine Runs.bind (Runs.store6 rfl rfl) ?_
      refine Runs.bind Runs.load7 ?_
      refine Runs.bind (Runs.store7 rfl rfl) ?_
      refine Runs.bind Runs.load6 ?_
      refine Runs.bind (Runs.store6 rfl rfl) ?_
      refine Runs.bind Runs.load7 ?_
      refine Runs.bind (Runs.store7 rfl rfl) ?_
      exact Runs.ret rfl
    · intro x h; unfold outV; rw [h]; rfl
    · intro x h; unfold outJ; rw [h]; rfl
  · rw [upto_zero, upto_zero]
    unfold Held
    isplitl [H5']; · iexact H5'
    isplitl [H6] <;> iassumption
  rw [show Scf.trips k1_t1_loop.lb k1_t1_loop.ub k1_t1_loop.st = 32 by decide, upto_all, upto_all]
  unfold Held
  iintro %_ ⟨H5, H6, H7⟩
  sl_exec (disch := exact View.amount_pos _ _ (show 0 < S8x512.numel by decide))
  sl_step
  isplitl [Hx]; · iexact Hx
  isplitl [Hj]
  · iapply (show ((jCols i).view.loc (thrOf d i) ↦[(jCols i).view.set]{fullShare}
        ((jCols i).view.writes (Elt F) fj [⟨Rect.whole S8x512, tile_core.sl.dma0_1 i fx⟩] : Buf (Elt F) ((jCols i).view.loc (thrOf d i))) : sProp 𝕄)
      ⊢ _ from Entails.of_eq (pointsTo_congr (block_outJ fj fx i)))
    iexact Hj
  isplitl [Hw]
  · iapply (show ((wCols i).view.loc (thrOf d i) ↦[(wCols i).view.set]{fullShare}
        ((wCols i).view.writes (Elt F) fw [⟨Rect.whole S8x512, tile_core.sl.dma0_2 i fx⟩] : Buf (Elt F) ((wCols i).view.loc (thrOf d i))) : sProp 𝕄)
      ⊢ _ from Entails.of_eq (pointsTo_congr (block_outV fw fx i)))
    iexact Hw
  isplitl [H5]; · iexists _; iexact H5
  isplitl [H6]; · iexists _; iexact H6
  isplitl [H7]; · iexists _; iexact H7
  isplitl [Hc0]; · iexact Hc0
  isplitl [Hc1]; · iexact Hc1
  isplitl [Hc2]; · iexact Hc2
  iexists _; iexact HO

theorem ownSems0_V :
    (ownSems0 (thrOf d i) : sProp 𝕄)
      = iprop(semVal (cell0 d i) 0 ∗ semVal (cell1 d i) 0 ∗ semVal (cell2 d i) 0
          ∗ bigSep ((((ownCells (thrOf d i)).erase (cell0 d i)).erase (cell1 d i)).erase (cell2 d i)) fun g => semVal g 0) := by
  unfold SparseCore.Cfg.ownSems0
  rw [SparseCore.bigSep_erase' ((mem_ownCells (g := cell0 d i)).mpr ⟨rfl, by
      show (SemLoc.dma cc1_scoped0.sem : SemLoc sig).isScoped .scVector = true; decide⟩),
    SparseCore.bigSep_erase' (Finset.mem_erase.mpr ⟨by simp [cell0, cell1]; decide, (mem_ownCells (g := cell1 d i)).mpr ⟨rfl, by
      show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d i)).mpr ⟨rfl, by show (SemLoc.dma cc1_scoped2.sem : SemLoc sig).isScoped .scVector = true; decide⟩⟩⟩)]

/-- The subcore's own buffers are its three scratch blocks and the rest. -/
theorem ownBufs_V :
    (ownBufs (thrOf d i) : sProp 𝕄)
      = iprop((∃ f, (thrOf d i).loc cc1_scratch0 ↦{fullShare} f) ∗ (∃ f, (thrOf d i).loc cc1_scratch1 ↦{fullShare} f)
          ∗ (∃ f, (thrOf d i).loc cc1_scratch2 ↦{fullShare} f)
          ∗ bigSep ((((ownRefs (τ := τ) (thrOf d i).2).erase ((thrOf d i).2.devRef cc1_scratch0)).erase
              ((thrOf d i).2.devRef cc1_scratch1)).erase ((thrOf d i).2.devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := (thrOf d i).2)
    (b := (thrOf d i).2.devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := (thrOf d i).2) (b := (thrOf d i).2.devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := (thrOf d i).2) (b := (thrOf d i).2.devRef cc1_scratch2) rfl⟩⟩)]

/-! ## What the call hands a task and gets back -/

/-- A subcore's columns of the three arrays. -/
abbrev xPts (d : Dev nD) (i : grid1.Coords) (f : S64x16384.Idx → F .f32) : sProp 𝕄 :=
  (xCols i).view.loc (thrOf d i) ↦[(xCols i).view.set]{fullShare} (f : Buf (Elt F) ((xCols i).view.loc (thrOf d i)))
abbrev jPts (d : Dev nD) (i : grid1.Coords) (f : S8x16384.Idx → BitVec 32) : sProp 𝕄 :=
  (jCols i).view.loc (thrOf d i) ↦[(jCols i).view.set]{fullShare} (f : Buf (Elt F) ((jCols i).view.loc (thrOf d i)))
abbrev wPts (d : Dev nD) (i : grid1.Coords) (f : S8x16384.Idx → F .f32) : sProp 𝕄 :=
  (wCols i).view.loc (thrOf d i) ↦[(wCols i).view.set]{fullShare} (f : Buf (Elt F) ((wCols i).view.loc (thrOf d i)))

abbrev pieces (d : Dev nD) (i : grid1.Coords) (fx : S64x16384.Idx → F .f32) (fj : S8x16384.Idx → BitVec 32) (fw : S8x16384.Idx → F .f32) : sProp 𝕄 :=
  iprop(xPts d i fx ∗ jPts d i fj ∗ wPts d i fw)

def coordsV (c : Fin (grid1.bound 0)) (s : Fin (grid1.bound 1)) : grid1.Coords :=
  fun | 0 => c | 1 => s | ⟨_ + 2, h⟩ => absurd h (Nat.not_lt.2 (Nat.le_add_left _ _))

/-- The program a subcore runs. -/
abbrev task (i : grid1.Coords) := cc1_body (F := F) i xV (Memref.isWhole_whole _) jV (Memref.isWhole_whole _) wV (Memref.isWhole_whole _)
            svV (Memref.isWhole_whole _) ibV (Memref.isWhole_whole _) wbV (Memref.isWhole_whole _) cc1_scoped0 cc1_scoped1 cc1_scoped2

theorem tile_body (hF : (K (F := F)).Facts) (O : CellTallies nD τ sig (HIx 1)) (W : Waits sig (HIx 1)) (hO : ∀ g, O g none = 0)
    (fx : S64x16384.Idx → F .f32) (fj : S8x16384.Idx → BitVec 32) (fw : S8x16384.Idx → F .f32) :
    iprop(levAts (K (F := F)).L (K (F := F)).lev ∗ emp ∗ pieces d i fx fj fw
        ∗ scopedBufs (thrOf d i) ∗ scopedSems0 (thrOf d i) ∗ owes (thrOf d i) O W)
      ⊢ (wp frame (wpE (defs₀ (F := F)) 𝒱₀ (thrOf d i) none) Set.univ (task i)
          fun _ => iprop(pieces d i fx (outJ fx) (outV fx)
            ∗ scopedBufs (thrOf d i) ∗ scopedSems0 (thrOf d i)
            ∗ ∃ W', ⌜∀ p ∈ W', p ∈ W ∨ p.2 = none ∨ p.2 = some (0 : Fin 1)⌝ ∗ owes (thrOf d i) O W') : sProp 𝕄) := by
  rw [(K (F := F)).scopedBufs_V hF d ((i 0).castLE hcore1) ((i 1).castLE hsub1),
    SparseCore.Cfg.scopedSems0_V (Val := Elt F) d ((i 0).castLE hcore1) ((i 1).castLE hsub1), ownSems0_V, ownBufs_V]
  iintro ⟨#Hlv, -, ⟨Hx, Hj, Hw⟩, ⟨⟨%f5, H5⟩, ⟨%f6, H6⟩, ⟨%f7, H7⟩, Hbufs⟩, ⟨Hc0, Hc1, Hc2, Hsems⟩, HO⟩
  ihave Hmw := (show levAts (K (F := F)).L (K (F := F)).lev ⊢ Transfers.MayWaits (thrOf d i) (default : HIx 1) O from
    (K (F := F)).mayWaits_none (thr := thrOf d i) hO) $$ Hlv
  iapply (wp_wand_r _ _ _)
  isplitl [Hx Hj Hw H5 H6 H7 Hc0 Hc1 Hc2 HO]
  · iapply (tile_core d i O W fx fj fw f5 f6 f7)
    isplitr; · iexact Hmw
    isplitl [Hx]; · iexact Hx
    isplitl [Hj]; · iexact Hj
    isplitl [Hw]; · iexact Hw
    isplitl [H5]; · iexact H5
    isplitl [H6]; · iexact H6
    isplitl [H7]; · iexact H7
    isplitl [Hc0]; · iexact Hc0
    isplitl [Hc1]; · iexact Hc1
    isplitl [Hc2]; · iexact Hc2
    iexact HO
  iintro %_ ⟨Hx, Hj, Hw, H5, H6, H7, Hc0, Hc1, Hc2, %W', HO⟩
  isplitl [Hx Hj Hw]
  · isplitl [Hx]; · iexact Hx
    isplitl [Hj] <;> iassumption
  isplitl [H5 H6 H7 Hbufs]
  · isplitl [H5]; · iexact H5
    isplitl [H6]; · iexact H6
    isplitl [H7]; · iexact H7
    iexact Hbufs
  isplitl [Hc0 Hc1 Hc2 Hsems]
  · isplitl [Hc0]; · iexact Hc0
    isplitl [Hc1]; · iexact Hc1
    isplitl [Hc2]; · iexact Hc2
    iexact Hsems
  iexists W'; isplitr
  · ipureintro; intro p _
    rcases p.2 with _ | q
    · exact .inr (.inl rfl)
    · exact .inr (.inr (congrArg some (Subsingleton.elim q 0)))
  · iexact HO

/-- The call takes the three arrays in the tasks' columns and brings them back, the results written. -/
def P (fx : Dev nD → S64x16384.Idx → F .f32) (fj : Dev nD → S8x16384.Idx → BitVec 32) (fw : Dev nD → S8x16384.Idx → F .f32) :
    (K (F := F)).Pay (nD := nD) (Val := Elt F) (Name := ℕ) (U := UU) where
  st := fun q d c => match q with
    | 0 => bigSep Finset.univ fun s : Fin ((K (F := F)).nSub 0) => pieces d (coordsV c s) (fx d) (fj d) (fw d)
  dn := fun q d c => match q with
    | 0 => bigSep Finset.univ fun s : Fin ((K (F := F)).nSub 0) => pieces d (coordsV c s) (fx d) (outJ (fx d)) (outV (fx d))
  go := fun q d c s => match q with | 0 => pieces d (coordsV c s) (fx d) (fj d) (fw d)
  td := fun q d c s => match q with | 0 => pieces d (coordsV c s) (fx d) (outJ (fx d)) (outV (fx d))
  x := fun _ _ => iprop(emp)

variable (fx : Dev nD → S64x16384.Idx → F .f32) (fj : Dev nD → S8x16384.Idx → BitVec 32) (fw : Dev nD → S8x16384.Idx → F .f32)

instance P_storable : (P fx fj fw).IsStorable where
  st q d c := match q with
    | 0 => (inferInstance : BI.Storable (upEmb : UEmb _ 𝕄) (bigSep Finset.univ fun s : Fin ((K (F := F)).nSub 0) => pieces d (coordsV c s) (fx d) (fj d) (fw d)))
  dn q d c := match q with
    | 0 => (inferInstance : BI.Storable (upEmb : UEmb _ 𝕄) (bigSep Finset.univ fun s : Fin ((K (F := F)).nSub 0) => pieces d (coordsV c s) (fx d) (outJ (fx d)) (outV (fx d))))
  go q d c s := match q with
    | 0 => (inferInstance : BI.Storable (upEmb : UEmb _ 𝕄) (pieces d (coordsV c s) (fx d) (fj d) (fw d)))
  td q d c s := match q with
    | 0 => (inferInstance : BI.Storable (upEmb : UEmb _ 𝕄) (pieces d (coordsV c s) (fx d) (outJ (fx d)) (outV (fx d))))

theorem defs₀_vector (c : Fin τ.nSC) (s : Fin τ.nSub) :
    defs₀ (F := F) (.scVector c s) 1 () = SparseCore.onTile hcore1 hsub1 (fun c s => task (coordsV c s)) ⟨⟩ c s := rfl

theorem tileObl (hF : (K (F := F)).Facts) : (K (F := F)).TileObl (D (F := F)) 𝒱 (P fx fj fw) v₀ 0 := by
  intro d c i O W hO _ _
  simp only [show (P fx fj fw).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF O W hO (fx d) (fj d) (fw d)

theorem vecSplit : (K (F := F)).VecSplit' (P fx fj fw) 0 := by
  intro d c
  show iprop(bigSep Finset.univ fun s : Fin ((K (F := F)).nSub 0) => pieces d (coordsV c s) (fx d) (fj d) (fw d)) ⊢ |={Set.univ}=> iprop(
      (bigSep Finset.univ fun s : Fin ((K (F := F)).nSub 0) => pieces d (coordsV c s) (fx d) (fj d) (fw d))
      ∗ ((bigSep Finset.univ fun s : Fin ((K (F := F)).nSub 0) => pieces d (coordsV c s) (fx d) (outJ (fx d)) (outV (fx d)))
          -∗ (bigSep Finset.univ fun s : Fin ((K (F := F)).nSub 0) => pieces d (coordsV c s) (fx d) (outJ (fx d)) (outV (fx d)))))
  iintro H; imodintro
  isplitl [H]; · iexact H
  iintro H; iexact H

end Tile

end Cert.Proof.KernelIdeal

end
-- ==== Proof.KernelIdealScores.lean ====
module

public import proofs.«01_k».proof.Proof.KernelIdealTile
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.ValueKit
public import Idealize.ShloMosaic.Lib.Tactic
public import Idealize.ShloMosaic.Lib.VecWindow

/-! # The score array

The first call of the program runs over eight blocks of 2048 tokens.  Of every block it writes the
2048 columns of the score array.  The array it leaves is stated as one function of the two arrays it reads. -/

@[expose] public section

noncomputable section

namespace Cert.Proof.KernelIdeal

open Cert.KernelIdeal Cert.KernelIdeal.Gen Cert.Proof.Insert

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The scores of 2048 tokens: the products of the weights with the tokens, and of every column of them the
    exponentials of the differences from the largest, over their sum. -/
def softCols (w : FVec F S64x2048 .f32) (x : FVec F S2048x2048 .f32) : FVec F S64x2048 .f32 :=
  let z := matmul dot_S64x2048_S2048x2048_S64x2048_1_1_0_0_n_n none w (shapeCast S2048x2048 x shapeCasts_S2048x2048_S2048x2048)
    (constant S64x2048 .f32 0x00000000#32)
  let top := multiReduction .maximumf [0] S2048 z 0xFF800000#32 reduces_S64x2048_S2048 (.inl rfl) rfl
  let e := exp (subf z (broadcastTo S64x2048 (shapeCast S1x2048 top shapeCasts_S2048_S1x2048) broadcasts_S1x2048_S64x2048))
  let sum := multiReduction .add [0] S2048 e 0x00000000#32 reduces_S64x2048_S2048 (.inl rfl) rfl
  divf e (broadcastTo S64x2048 (shapeCast S1x2048 sum shapeCasts_S2048_S1x2048) broadcasts_S1x2048_S64x2048)

/-- Rows `2048 t` to `2048 t + 2047` of the token array. -/
def rows (x : S16384x2048.Idx → F .f32) (t : ℕ) : S2048x2048.Idx → F .f32 :=
  fun y => x (ix2 (Fin.ofNat 16384 (2048 * t + (y 0).val)) (y 1))

/-- The score array of the token array `x` and the weights `w`. -/
def scores (x : S16384x2048.Idx → F .f32) (w : S64x2048.Idx → F .f32) : S64x16384.Idx → F .f32 :=
  fun y => softCols w (rows x ((y 1).val / 2048)) (ix2 (y 0) (Fin.ofNat 2048 (y 1).val))

section Region

variable (c : Dev nD) (x : S16384x2048.Idx → F .f32) (w : S64x2048.Idx → F .f32) (y : S64x16384.Idx → F .f32)

/-- The block of tokens and the weights as point `t` finds them staged. -/
abbrev stg0 (t : Fin cfg0.N) : S2048x2048.Idx → F .f32 := ((cfg0.win 0).blk t).view.read (Elt F) x
abbrev stg1 (t : Fin cfg0.N) : S64x2048.Idx → F .f32 := ((cfg0.win 1).blk t).view.read (Elt F) w

/-- The proof data of the call: the three arrays as found, what every buffer holds after a point, and what the
    core owes, which the call leaves alone. -/
def dat : Dat τ (Elt F) (HIx 1) ℕ UU ℕ cfg0 c where
  A v := match v with
    | ⟨0, _⟩ => x
    | ⟨1, _⟩ => w
    | ⟨2, _⟩ => y
  after v t := match v with
    | ⟨0, _⟩ => stg0 x t
    | ⟨1, _⟩ => stg1 w t
    | ⟨2, _⟩ => softCols (stg1 w t) (stg0 x t)
  Φ _ := BI.emp
  q _ := fullShare
  owed _ := (K (F := F)).Otc c 0
  recorded _ := {p | p.2 = none}

theorem body_run (i : grid0.Coords) (M0 : Memref sig .tc .vmem S2048x2048 .f32) (h0 : M0.IsWhole) (M1 : Memref sig .tc .vmem S64x2048 .f32)
    (h1 : M1.IsWhole) (M2 : Memref sig .tc .vmem S64x2048 .f32) (h2 : M2.IsWhole) (X : S2048x2048.Idx → F .f32) (W : S64x2048.Idx → F .f32)
    (Y : S64x2048.Idx → F .f32) (Q : PUnit → sProp 𝕄) :
    iprop(owns (c.tc : Thread nD τ) M0 fullShare X ∗ owns (c.tc : Thread nD τ) M1 fullShare W ∗ owns (c.tc : Thread nD τ) M2 fullShare Y
      ∗ (iprop(owns (c.tc : Thread nD τ) M0 fullShare X ∗ owns (c.tc : Thread nD τ) M1 fullShare W
          ∗ owns (c.tc : Thread nD τ) M2 fullShare (softCols W X)) -∗ Q ⟨⟩))
      ⊢ wp frame (wpE (defs₀ (F := F)) 𝒱₀ (c.tc : Thread nD τ) none) Set.univ (cc0__tc_scores_body i M0 h0 M1 h1 M2 h2) Q := by
  unfold owns
  iintro ⟨⟨%f0, %e0, H0⟩, ⟨%f1, %e1, H1⟩, ⟨%f2, -, H2⟩, Hk⟩
  subst e0 e1
  unfold cc0__tc_scores_body
  sl_exec!
  sl_step
  iapply Hk
  isplitl [H0]; · iexists _; isplitr; swap; (· iexact H0); ipureintro; rfl
  isplitl [H1]; · iexists _; isplitr; swap; (· iexact H1); ipureintro; rfl
  iexists _; isplitr; swap; (· iexact H2); ipureintro
  unfold body_run.sl.H2_1 body_run.sl.v12
  refine (View.read_writes_full _ _ _ _ _).trans ?_
  rw [← View.readAt_full M0.view f0 inb_S2048x2048_S2048x2048_0_0, ← View.readAt_full M1.view f1 inb_S64x2048_S64x2048_0_0]
  rfl

theorem before0 (t : Fin cfg0.N) (d) : (dat c x w y).before 0 t d = stg0 x t :=
  ((dat c x w y).before_in_eq_fetched 0 rfl (fun _ => rfl) (fun _ _ _ => rfl) (fun _ => rfl) t d).trans rfl

theorem before1 (t : Fin cfg0.N) (d) : (dat c x w y).before 1 t d = stg1 w t :=
  ((dat c x w y).before_in_eq_fetched 1 rfl (fun _ => rfl) (fun _ _ _ => rfl) (fun _ => rfl) t d).trans rfl

theorem body_obligation : BodyObligation (dat c x w y) (defs₀ (F := F)) 𝒱₀ none Set.univ := fun t => by
  rw [bigSep_W0, bigSep_W0]
  rw [show (dat c x w y).Φ t.castSucc = BI.emp from rfl, show (dat c x w y).Φ t.succ = BI.emp from rfl,
    show (dat c x w y).owesAt none t.succ = (dat c x w y).owesAt none t.castSucc from rfl]
  iintro ⟨HΦ, Howes, ⟨%d0, H0⟩, ⟨%d1, H1⟩, ⟨%d2, H2⟩⟩
  rw [before0, before1]
  iapply (body_run c (grid0.coords t) _ (hstage0_0 ((cfg0.slots t 0).cast nbuf0_0)) _ (hstage0_1 ((cfg0.slots t 1).cast nbuf0_1)) _ (hstage0_2 ((cfg0.slots t 2).cast nbuf0_2)) _ _ _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-- Which block every window stages at a point. -/
theorem index_eq : ∀ t : Fin grid0.N, (win0_0.index t 0 = t.val ∧ win0_0.index t 1 = 0) ∧ (win0_1.index t 0 = 0 ∧ win0_1.index t 1 = 0)
    ∧ win0_2.index t 0 = 0 ∧ win0_2.index t 1 = t.val := by decide +kernel

theorem stg1_eq (t : Fin cfg0.N) : stg1 w t = w := by
  funext z
  show w ((win0_1.blk t).view.emb z) = w z
  obtain ⟨-, ⟨i0, i1⟩, -⟩ := index_eq t
  refine congrArg w (funext fun a => Fin.ext ?_)
  fin_cases a <;> blk_simp
  · rw [i0]; exact Nat.zero_add _
  · rw [i1]; exact Nat.zero_add _

theorem stg0_eq (t : Fin cfg0.N) : stg0 x t = rows x t.val := by
  funext z
  show x ((win0_0.blk t).view.emb z) = x _
  have ht : t.val < 8 := t.isLt.trans_eq N_0
  have h0 : (z 0).val < 2048 := (z 0).isLt
  obtain ⟨⟨i0, i1⟩, -, -⟩ := index_eq t
  refine congrArg x (funext fun a => Fin.ext ?_)
  fin_cases a <;> blk_simp
  · rw [i0]
    show t.val * 2048 + (z 0).val = (2048 * t.val + (z 0).val) % 16384
    omega
  · rw [i1]; exact Nat.zero_add _

/-- What the call leaves in the third array. -/
theorem arrAt_out : (dat c x w y).arrAt 2 cfg0.N = scores x w := by
  refine (dat c x w y).arrAt_eq_of_covers 2 _ (by decide +kernel) fun t hf z => ?_
  blk_simp
  show softCols (stg1 w t) (stg0 x t) z = scores x w ((win0_2.blk t).view.emb z)
  have ht : t.val < 8 := t.isLt.trans_eq N_0
  have h1 : (z 1).val < 2048 := (z 1).isLt
  obtain ⟨-, -, i0, i1⟩ := index_eq t
  have e1 : ((win0_2.blk t).view.emb z 1).val = 2048 * t.val + (z 1).val := by
    blk_simp
    rw [i1]; omega
  have e0 : ((win0_2.blk t).view.emb z 0).val = (z 0).val := by
    blk_simp
    rw [i0]; exact Nat.zero_add _
  unfold scores
  rw [stg1_eq, stg0_eq, e1, show (2048 * t.val + (z 1).val) / 2048 = t.val by omega]
  refine congrArg _ (funext fun a => Fin.ext ?_)
  fin_cases a
  · exact e0.symm
  · show (z 1).val = (2048 * t.val + (z 1).val) % 2048
    omega

abbrev tcOf : Thread nD τ := c.tc

/-- No table is prefetched. -/
abbrev adm : (p : Fin 1) → (pcfgs (F := F) p).Adm := fun p => (cfgs p).toPCfg_adm

end Region

section Segment

variable (x : Dev nD → S16384x2048.Idx → F .f32) (w : Dev nD → S64x2048.Idx → F .f32) (y : Dev nD → S64x16384.Idx → F .f32)

def pdats : (p : Fin 1) → (c : Dev nD) → Dat τ (Elt F) (HIx 1) ℕ UU ℕ (Pipeline.pin (pcfgs (F := F)) adm p) c
  | 0 => fun c => dat c (x c) (w c) (y c)

theorem otc_none (c : Dev nD) (g : GSem nD τ sig) (i : HIx 1) (h : 0 < (K (F := F)).Otc c 0 g i) : 0 < (K (F := F)).lev g i := by
  have := SparseCore.Cfg.lev_of_Otc_pos h; omega

/-- The three arrays of the call, the last at `z`, and what the core owes meanwhile: its starts of the second call. -/
def entered (c : Dev nD) (z : S64x16384.Idx → F .f32) : sProp 𝕄 :=
  iprop(((tcOf c).loc main_v0 ↦{fullShare} (x c : Buf (Elt F) ((tcOf c).loc main_v0)))
    ∗ ((tcOf c).loc main_arg1 ↦{fullShare} (w c : Buf (Elt F) ((tcOf c).loc main_arg1)))
    ∗ ((tcOf c).loc main_v1 ↦{fullShare} (z : Buf (Elt F) ((tcOf c).loc main_v1)))
    ∗ ∃ W, ⌜∀ p ∈ W, p.2 = none⌝ ∗ owes (tcOf c) ((K (F := F)).Otc c 0) W)

theorem arrays_eq (c : Dev nD) (G : (v : Fin cfg0.W) → Buf (Elt F) ((cfg0.win v).arr.view.loc (c.tc : Thread nD τ))) :
    ((dat c (x c) (w c) (y c)).arrays G : sProp 𝕄)
      = iprop(((tcOf c).loc main_v0 ↦{fullShare} (G 0 : Buf (Elt F) ((tcOf c).loc main_v0)))
        ∗ ((tcOf c).loc main_arg1 ↦{fullShare} (G 1 : Buf (Elt F) ((tcOf c).loc main_arg1)))
        ∗ ((tcOf c).loc main_v1 ↦{fullShare} (G 2 : Buf (Elt F) ((tcOf c).loc main_v1)))) := by
  refine (Pipeline.arrays_eq (Pipeline.pin (pcfgs (F := F)) adm) (pdats x w y) 0 c launch0.arr_whole
    ((pdats x w y 0 c).share_full fun _ => rfl) G).trans ?_
  exact bigSep_W0 _

/-- The call as a segment of the program. -/
def region : Pipeline.RegionSeg (pcfgs (F := F)) adm (pdats x w y) none (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation c (x c) (w c) (y c)).loose
  hwaits c := Pipeline.cellsWaits_of_cut (Pipeline.pin (pcfgs (F := F)) adm) (pdats x w y) none 0 c 0 ((K (F := F)).Otc c 0) (fun _ => rfl)
    (fun _ _ => Finset.mem_univ _) (fun _ _ => le_rfl) (fun g i h => ⟨Finset.mem_univ _, otc_none c g i h⟩)
  pre c := entered x w c (y c)
  post c := entered x w c (scores (x c) (w c))
  X _ := BI.emp
  Y _ := BI.emp
  Z _ := BI.emp
  hentry c := by
    rw [Pipeline.ownSems0_none, Pipeline.prefHeld_of_none _ rfl]
    have e := arrays_eq x w y c ((dat c (x c) (w c) (y c)).arrAt · 0)
    unfold entered
    iintro ⟨⟨Hx, Hw, Hy, %W, %hW, HO⟩, -, -⟩
    imodintro
    isplitl [Hx Hw Hy]
    · iapply (show _ ⊢ (pdats x w y 0 c).arrays ((pdats x w y 0 c).arrAt · 0) from Entails.of_eq e.symm)
      isplitl [Hx]; · iexact Hx
      isplitl [Hw]; · iexact Hw
      iexact Hy
    isplitr; · iempintro
    isplitl [HO]
    · unfold Pipeline.Dat.owesAt Pipeline.owesWithin
      iexists W; isplitr; · ipureintro; exact fun p hp => Or.inl (hW p hp)
      iexact HO
    isplitr <;> iempintro
  hin c := by
    rw [show (pdats x w y 0 c).Φ 0 = BI.emp from rfl]
    exact (show _ ⊢ Pipeline.scopedRest spec0 c from by iintro ⟨-, -, H⟩; iexact H).trans (Entails.of_eq (scopedRest0_eq c))
  hout c := by
    rw [Pipeline.ownSems0_none, show (pdats x w y 0 c).Φ (Fin.last _) = BI.emp from rfl]
    iintro -
    isplitr; · iempintro
    isplitr; · iempintro
    iapply (show BI.emp ⊢ Pipeline.scopedRest spec0 c from Entails.of_eq (scopedRest0_eq c).symm)
    iempintro
  hexit c := by
    have e := arrays_eq x w y c ((dat c (x c) (w c) (y c)).arrAt · cfg0.N)
    simp only [arrAt_out, (dat c (x c) (w c) (y c)).arrAt_in 0 rfl, (dat c (x c) (w c) (y c)).arrAt_in 1 rfl] at e
    unfold entered
    iintro ⟨Ha, HO, -, -⟩
    ihave Ha' := (show (pdats x w y 0 c).arrays ((pdats x w y 0 c).arrAt · cfg0.N) ⊢ _ from Entails.of_eq e) $$ Ha
    icases Ha' with ⟨Hx, Hw, Hy⟩
    imodintro
    isplitl [Hx]; · iexact Hx
    isplitl [Hw]; · iexact Hw
    isplitl [Hy]; · iexact Hy
    unfold Pipeline.Dat.owesAt Pipeline.owesWithin
    icases HO with ⟨%W, %hW, HO⟩
    iexists W; isplitr; swap; (· iexact HO)
    ipureintro
    intro p hp
    rcases hW hp with h | ⟨v, u, h⟩
    · exact h
    · rw [h]

end Segment

end Cert.Proof.KernelIdeal

end
-- ==== Proof.KernelIdealRun.lean ====
module

public import proofs.«01_k».proof.Proof.KernelIdealScores
public import Idealize.ShloMosaic.Lib.StableHlo.Run
public import Idealize.ShloMosaic.Lib.StableHlo.RunRead

/-! # The whole program's run

The token array is reshaped, the first call writes the score array, the second call's thirty-two tasks write the two
result arrays, and four host operations carry these to the results.  What every array holds at the end is stated as
the operations' effect on the arrays as found. -/

@[expose] public section

noncomputable section

namespace Cert.Proof.KernelIdeal

open Cert.KernelIdeal Cert.KernelIdeal.Gen Cert.Proof.Insert

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

/-! ## The columns of the thirty-two tasks split the arrays and join them -/

section Columns

/-- The tasks, by SparseCore and subcore. -/
abbrev Task : Type := Fin 2 × Fin 16
abbrev at' (p : Task) : grid1.Coords := coordsV p.1 p.2

theorem mem_xCols (i : grid1.Coords) (y : S64x16384.Idx) :
    y ∈ (xCols i).view.set ↔ (y 1).val / 512 = 2 * (i 1).val + (i 0).val := by
  have h : (xCols i).view.set = (Rect.unit (s := S64x16384) (k1_off1 i) S64x512.size (k1_off1_inb i)).set := by
    show ((View.whole (main_v1_scv : Ref sig .scVector)).slice _).set = _
    rw [View.set_slice]; exact Finset.map_refl
  have h0 : (y 0).val < 64 := (y 0).isLt
  rw [h, Rect.mem_set_unit, k1_off1_eq]
  constructor
  · intro H
    have := H 1
    simp only [Shape.size] at this
    change 1024 * (i 1).val + 512 * (i 0).val ≤ (y 1).val ∧ (y 1).val < 1024 * (i 1).val + 512 * (i 0).val + 512 at this
    omega
  · intro H a
    match a with
    | 0 => change 0 ≤ (y 0).val ∧ (y 0).val < 0 + 64; omega
    | 1 =>
      change 1024 * (i 1).val + 512 * (i 0).val ≤ (y 1).val ∧ (y 1).val < 1024 * (i 1).val + 512 * (i 0).val + 512
      omega

theorem mem_outCols (i : grid1.Coords) (y : S8x16384.Idx) :
    y ∈ (Rect.unit (s := S8x16384) (k1_off74 i) S8x512.size (k1_off74_inb i)).set ↔ (y 1).val / 512 = 2 * (i 1).val + (i 0).val := by
  have h0 : (y 0).val < 8 := (y 0).isLt
  rw [Rect.mem_set_unit, k1_off74_eq]
  constructor
  · intro H
    have := H 1
    change 1024 * (i 1).val + 512 * (i 0).val ≤ (y 1).val ∧ (y 1).val < 1024 * (i 1).val + 512 * (i 0).val + 512 at this
    omega
  · intro H a
    match a with
    | 0 => change 0 ≤ (y 0).val ∧ (y 0).val < 0 + 8; omega
    | 1 =>
      change 1024 * (i 1).val + 512 * (i 0).val ≤ (y 1).val ∧ (y 1).val < 1024 * (i 1).val + 512 * (i 0).val + 512
      omega

theorem jCols_set (i : grid1.Coords) : (jCols i).view.set = (Rect.unit (s := S8x16384) (k1_off74 i) S8x512.size (k1_off74_inb i)).set := by
  show ((View.whole (main_v2_0_scv : Ref sig .scVector)).slice _).set = _
  rw [View.set_slice]; exact Finset.map_refl
theorem wCols_set (i : grid1.Coords) : (wCols i).view.set = (Rect.unit (s := S8x16384) (k1_off74 i) S8x512.size (k1_off74_inb i)).set := by
  show ((View.whole (main_v2_1_scv : Ref sig .scVector)).slice _).set = _
  rw [View.set_slice]; exact Finset.map_refl

/-- A family of column sets, one for every task, splits an array and joins it. -/
theorem split_of {ℓ : Loc nD τ sig} (f : Buf (Elt F) ℓ) (C : Task → Finset (Idx ℓ)) (col : Idx ℓ → ℕ)
    (hcol : ∀ y, col y / 512 < 32)
    (hC : ∀ p y, y ∈ C p ↔ col y / 512 = 2 * p.2.val + p.1.val) :
    (ℓ ↦{fullShare} f : sProp 𝕄) = bigSep Finset.univ fun p : Task => ℓ ↦[C p]{fullShare} f := by
  rw [← pointsTo_biUnion Finset.univ C]
  · congr 1
    symm
    refine Finset.eq_univ_of_forall fun y => Finset.mem_biUnion.mpr ?_
    have := hcol y
    refine ⟨(⟨col y / 512 % 2, by omega⟩, ⟨col y / 512 / 2, by omega⟩), Finset.mem_univ _, (hC _ _).mpr ?_⟩
    show col y / 512 = 2 * (col y / 512 / 2) + col y / 512 % 2
    omega
  · intro p _ p' _ h
    refine Finset.disjoint_left.mpr fun y hy hy' => h ?_
    have e := ((hC p y).mp hy).symm.trans ((hC p' y).mp hy')
    have h1 := p.1.isLt
    have h2 := p'.1.isLt
    refine Prod.ext (Fin.ext ?_) (Fin.ext ?_) <;> omega

/-- The three arrays whole are the thirty-two tasks' columns of them. -/
theorem columns (d : Dev nD) (fx : S64x16384.Idx → F .f32) (fj : S8x16384.Idx → BitVec 32) (fw : S8x16384.Idx → F .f32) :
    (iprop(((tcOf d).loc main_v1 ↦{fullShare} (fx : Buf (Elt F) ((tcOf d).loc main_v1)))
        ∗ ((tcOf d).loc main_v2_0 ↦{fullShare} (fj : Buf (Elt F) ((tcOf d).loc main_v2_0)))
        ∗ (tcOf d).loc main_v2_1 ↦{fullShare} (fw : Buf (Elt F) ((tcOf d).loc main_v2_1))) : sProp 𝕄)
      = bigSep Finset.univ fun c : Fin 2 => bigSep Finset.univ fun s : Fin 16 => pieces d (coordsV c s) fx fj fw := by
  rw [← bigSep_univ_prod fun p : Task => pieces d (at' p) fx fj fw]
  rw [bigSep_sep', bigSep_sep']
  rw [split_of (F := F) (ℓ := (tcOf d).loc main_v1) fx (fun p => (xCols (at' p)).view.set) (fun y => (y 1).val)
      (fun y => by have : (y 1).val < 16384 := (y 1).isLt; omega) (fun p y => mem_xCols (at' p) y),
    split_of (F := F) (ℓ := (tcOf d).loc main_v2_0) fj (fun p => (jCols (at' p)).view.set) (fun y => (y 1).val)
      (fun y => by have : (y 1).val < 16384 := (y 1).isLt; omega) (fun p y => by rw [jCols_set]; exact mem_outCols (at' p) y),
    split_of (F := F) (ℓ := (tcOf d).loc main_v2_1) fw (fun p => (wCols (at' p)).view.set) (fun y => (y 1).val)
      (fun y => by have : (y 1).val < 16384 := (y 1).isLt; omega) (fun p y => by rw [wCols_set]; exact mem_outCols (at' p) y)]

end Columns

/-! ## The launch element: the handshakes' rounds and the first call's staging cells -/

abbrev EH : Emb UH 𝕄 := embL
abbrev EP : Emb UP 𝕄 := (Emb.inl : Emb UP (UP × Counters)).trans embR

abbrev pcs : Fin 1 → Pipeline.Cfg sig Λ₀ := Pipeline.pin (pcfgs (F := F)) adm

def u₀ : UU := (initOf (K (F := F)).hsCells (K (F := F)).hsToks,
  (initOf (Pipeline.cells (nD := nD) (τ := τ) (pcs (F := F)) cellOf_inj) (Pipeline.launchToks (nD := nD) (τ := τ) (pcs (F := F)) cellOf_inj), 1))

/-- What the launch deals a TensorCore for the first call's staging cells. -/
abbrev G (d : Dev nD) : sProp 𝕄 :=
  iprop(Pipeline.cellsGhost (pcs (F := F)) EP 0 d ∗ Pipeline.toksInit (pcs (F := F)) EP 0 d)

variable (fx : Dev nD → S64x16384.Idx → F .f32) (fj : Dev nD → S8x16384.Idx → BitVec 32) (fw : Dev nD → S8x16384.Idx → F .f32) in
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P fx fj fw).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (pcs (F := F)) EP cellOf_inj) $$ HP with ⟨Hg, Ht⟩
  imodintro
  isplitl [HH]; · iexact HH
  isplitl [Hg Ht]
  · rw [bigSep_sep']
    isplitl [Hg]
    · iapply (Entails.of_eq (bigSep_congr fun (d : Dev nD) _ => bigSep_univ_of_subsingleton (Φ := fun p => Pipeline.cellsGhost (pcs (F := F)) EP p d) (0 : Fin 1))); iexact Hg
    · iapply (Entails.of_eq (bigSep_congr fun (d : Dev nD) _ => bigSep_univ_of_subsingleton (Φ := fun p => Pipeline.toksInit (pcs (F := F)) EP p d) (0 : Fin 1))); iexact Ht
  rw [show (bigSep Finset.univ fun thr : Thread nD τ => bigSep Finset.univ fun q : Fin 1 => (P fx fj fw).x q thr) = bigSep Finset.univ fun _ => iprop(emp) from
    bigSep_congr fun _ _ => bigSep_univ_of_subsingleton (0 : Fin 1), show (bigSep Finset.univ fun _ : Thread nD τ => (iprop(emp) : sProp 𝕄)) = iprop(emp) from bigSep_emp_const _]
  iempintro

/-! ## The arrays through the program -/

section Arrays

variable (m : (ℓ : Loc nD τ sig) → Buf (Elt F) ℓ) (d : Dev nD)

abbrev r (b : Ref sig .tc) : DevRef τ sig := Proc.devRef .tc b

/-- The TensorCore's ten arrays. -/
abbrev S10 : Finset (DevRef τ sig) :=
  {r main_arg0, r main_arg1, r main_v0, r main_v1, r main_v2_0, r main_v2_1, r main_v3, r main_v4, r main_v5, r main_v6}

abbrev op0 : HloOp τ sig (Elt F) := StableHlo.reshape main_arg0 main_v0 (rfl : (.f32 : EltTy) = .f32) shapeCasts_S4x4096x2048_S16384x2048
abbrev op1 : HloOp τ sig (Elt F) := StableHlo.unary main_v2_0 main_v3 ((transpose S16384x8 [1, 0] · transposes_S8x16384_S16384x8_1_0) : (⟨S8x16384, .i32⟩ : BufTy).Contents (Elt F) → (⟨S16384x8, .i32⟩ : BufTy).Contents (Elt F))
abbrev op2 : HloOp τ sig (Elt F) := StableHlo.reshape main_v3 main_v4 (rfl : (.i32 : EltTy) = .i32) shapeCasts_S16384x8_S4x4096x8
abbrev op3 : HloOp τ sig (Elt F) := StableHlo.unary main_v2_1 main_v5 ((transpose S16384x8 [1, 0] · transposes_S8x16384_S16384x8_1_0) : (⟨S8x16384, .f32⟩ : BufTy).Contents (Elt F) → (⟨S16384x8, .f32⟩ : BufTy).Contents (Elt F))
abbrev op4 : HloOp τ sig (Elt F) := StableHlo.reshape main_v5 main_v6 (rfl : (.f32 : EltTy) = .f32) shapeCasts_S16384x8_S4x4096x8

/-- The tokens, the weights and the scores of device `d`, out of the arrays as found. -/
def toks : S16384x2048.Idx → F .f32 := shapeCast S16384x2048 (m ((tcOf d).loc main_arg0)) shapeCasts_S4x4096x2048_S16384x2048
def wts : S64x2048.Idx → F .f32 := m ((tcOf d).loc main_arg1)
def sco : S64x16384.Idx → F .f32 := scores (toks m d) (wts m d)

/-- The arrays as found; then after the first host operation, the first call, the second, and the four operations. -/
def V0 : Valuation τ sig (Elt F) := fun b => m (d, b)
def V1 : Valuation τ sig (Elt F) := op0.result (V0 m d)
def V2 : Valuation τ sig (Elt F) := Function.update (V1 m d) (r main_v1) (sco m d)
def V3 : Valuation τ sig (Elt F) := Function.update (Function.update (V2 m d) (r main_v2_0) (outJ (sco m d))) (r main_v2_1) (outV (sco m d))
def V4 : Valuation τ sig (Elt F) := op4.result (op3.result (op2.result (op1.result (V3 m d))))

theorem held_eq (W : Valuation τ sig (Elt F)) :
    (held (tcOf d) S10 W : sProp 𝕄)
      = iprop(((tcOf d).loc main_arg0 ↦{fullShare} W (r main_arg0)) ∗ ((tcOf d).loc main_arg1 ↦{fullShare} W (r main_arg1))
        ∗ ((tcOf d).loc main_v0 ↦{fullShare} W (r main_v0)) ∗ ((tcOf d).loc main_v1 ↦{fullShare} W (r main_v1))
        ∗ ((tcOf d).loc main_v2_0 ↦{fullShare} W (r main_v2_0)) ∗ ((tcOf d).loc main_v2_1 ↦{fullShare} W (r main_v2_1))
        ∗ ((tcOf d).loc main_v3 ↦{fullShare} W (r main_v3)) ∗ ((tcOf d).loc main_v4 ↦{fullShare} W (r main_v4))
        ∗ ((tcOf d).loc main_v5 ↦{fullShare} W (r main_v5)) ∗ ((tcOf d).loc main_v6 ↦{fullShare} W (r main_v6))) := by
  unfold held S10
  repeat rw [SparseCore.bigSep_insert' (by decide)]
  rw [bigSep_singleton]

theorem unscopedBufs_eq : (unscopedBufs d (fun b => m ((tcOf d).loc b)) : sProp 𝕄) = held (tcOf d) S10 (V0 m d) := by
  rw [held_eq]
  unfold unscopedBufs
  rw [show (Finset.univ.filter fun b : Ref sig .tc => ¬ b.isScoped)
    = {main_arg0, main_arg1, main_v0, main_v1, main_v2_0, main_v2_1, main_v3, main_v4, main_v5, main_v6} by decide]
  repeat rw [SparseCore.bigSep_insert' (by decide)]
  rw [bigSep_singleton]
  rfl

theorem V1_v0 : V1 m d (r main_v0) = toks m d := StableHlo.reshape_result main_arg0 main_v0 _ _ _ _ _
theorem V1_ne {b : Ref sig .tc} (h : b ≠ main_v0) : V1 m d (r b) = m ((tcOf d).loc b) := by
  unfold V1; rw [StableHlo.reshape_result_ne (h := h)]; rfl
theorem V2_v1 : V2 m d (r main_v1) = sco m d := Function.update_self _ _ _
theorem V2_ne {b : DevRef τ sig} (h : b ≠ r main_v1) : V2 m d b = V1 m d b := Function.update_of_ne h _ _
theorem V3_j : V3 m d (r main_v2_0) = outJ (sco m d) := by
  unfold V3; rw [Function.update_of_ne (by decide), Function.update_self]
theorem V3_v : V3 m d (r main_v2_1) = outV (sco m d) := Function.update_self _ _ _
theorem V3_ne {b : DevRef τ sig} (h : b ≠ r main_v2_0) (h' : b ≠ r main_v2_1) : V3 m d b = V2 m d b := by
  unfold V3; rw [Function.update_of_ne h', Function.update_of_ne h]

/-- The two results and the two arguments at the end. -/
theorem V4_v4 : V4 m d (r main_v4) = shapeCast S4x4096x8 (transpose S16384x8 [1, 0] (outJ (sco m d)) transposes_S8x16384_S16384x8_1_0) shapeCasts_S16384x8_S4x4096x8 := by
  unfold V4
  rw [StableHlo.reshape_result_ne (h := by decide), StableHlo.unary_result_ne (h := by decide), StableHlo.reshape_result, StableHlo.unary_result]
  show _ = shapeCast _ (transpose _ _ _ _) _
  rw [← V3_j]
theorem V4_v6 : V4 m d (r main_v6) = shapeCast S4x4096x8 (transpose S16384x8 [1, 0] (outV (sco m d)) transposes_S8x16384_S16384x8_1_0) shapeCasts_S16384x8_S4x4096x8 := by
  unfold V4
  rw [StableHlo.reshape_result, StableHlo.unary_result, StableHlo.reshape_result_ne (h := by decide), StableHlo.unary_result_ne (h := by decide), ← V3_v]
  rfl
theorem V4_arg {b : Ref sig .tc} (h : b ≠ main_v0 ∧ b ≠ main_v3 ∧ b ≠ main_v4 ∧ b ≠ main_v5 ∧ b ≠ main_v6)
    (h' : r b ≠ r main_v1 ∧ r b ≠ r main_v2_0 ∧ r b ≠ r main_v2_1) : V4 m d (r b) = m ((tcOf d).loc b) := by
  unfold V4
  rw [StableHlo.reshape_result_ne (h := h.2.2.2.2), StableHlo.unary_result_ne (h := h.2.2.2.1), StableHlo.reshape_result_ne (h := h.2.2.1),
    StableHlo.unary_result_ne (h := h.2.1), V3_ne m d h'.2.1 h'.2.2, V2_ne m d h'.1, V1_ne m d h.1]

end Arrays

/-! ## The program on the TensorCore -/

section Main

variable (m : (ℓ : Loc nD τ sig) → Buf (Elt F) ℓ) (ρ : Dev nD → PrngReg)

abbrev PP : (K (F := F)).Pay (nD := nD) (Val := Elt F) (Name := ℕ) (U := UU) :=
  P (fun d => sco m d) (fun d => m ((tcOf d).loc main_v2_0)) (fun d => m ((tcOf d).loc main_v2_1))

abbrev FIN (d : Dev nD) : sProp 𝕄 := held (tcOf d) S10 (V4 m d)

theorem below_none (d : Dev nD) (W : Waits sig (HIx 1)) : (K (F := F)).WBelow (tcOf d) W (8 * 0) ↔ ∀ p ∈ W, p.2 = none := by
  constructor
  · intro h p hp
    have := h p hp
    rcases hq : p.2 with _ | q
    · rfl
    · rw [hq] at this
      have := (K (F := F)).lev_some_pos (tcOf d, p.1) q
      omega
  · intro h p hp
    rw [h p hp, (K (F := F)).lev_none]

theorem call0_eq :
    (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) .ret : Prog (TpuEff nD τ sig (Elt F) (ΛP (F := F)) .tc) PUnit) := rfl

/-- The first call on device `d`'s TensorCore. -/
theorem call0 [∀ e, Nonempty (Elt F e)] (d : Dev nD) (Q : PUnit → sProp 𝕄) :
    iprop((iprop(boundary (tcOf d) ∗ entered (fun d => toks m d) (fun d => wts m d) d (sco m d)) -∗ Q ⟨⟩)
        ∗ boundary (tcOf d) ∗ entered (fun d => toks m d) (fun d => wts m d) d (m ((tcOf d).loc main_v1)) ∗ levAts (K (F := F)).L (K (F := F)).lev
        ∗ G (F := F) d)
      ⊢ wp frame (wpE ((K (F := F)).defs (D (F := F))) 𝒱 (tcOf d) none) Set.univ
          (Prog.lift (.customCall (SparseCore.inner (Pipeline.entry 0)) ()) : Prog (TpuEff nD τ sig (Elt F) (SparseCore.Sig (ΛP (F := F)) 1) .tc) PUnit) Q := by
  rw [call0_eq]
  have h := Pipeline.RegionSeg.wp (pcfgs (F := F)) adm (pdats (fun d => toks m d) (fun d => wts m d) (fun d => m ((tcOf d).loc main_v1))) none cellOf_inj EP (defs₀ (F := F)) 𝒱₀
    (K (F := F)).L (K (F := F)).lev
    (region (fun d => toks m d) (fun d => wts m d) (fun d => m ((tcOf d).loc main_v1))) d none (fun u hu => nomatch hu) .ret Q
  iintro ⟨Hk, Hb, He, Hl, Hg, Ht⟩
  iapply ((K (F := F)).wp_liftProg (D (F := F)) 𝒱 (tcOf d) Set.univ none _ Q)
  iapply h
  isplitl [Hk]
  · iintro H
    rw [wp_ret]
    imodintro
    iapply Hk
    iexact H
  isplitl [Hb]; · iexact Hb
  isplitl [He]; · iapply (show entered (fun d => toks m d) (fun d => wts m d) d (m ((tcOf d).loc main_v1)) ⊢ (region (fun d => toks m d) (fun d => wts m d) (fun d => m ((tcOf d).loc main_v1))).pre d from .rfl); iexact He
  isplitl [Hl]; · iexact Hl
  isplitl [Hg] <;> iassumption

theorem st0_eq (d : Dev nD) :
    (bigSep Finset.univ fun c : Fin ((K (F := F)).nCore 0) => (PP m).st 0 d c)
      = iprop(((tcOf d).loc main_v1 ↦{fullShare} (sco m d : Buf (Elt F) ((tcOf d).loc main_v1)))
        ∗ ((tcOf d).loc main_v2_0 ↦{fullShare} m ((tcOf d).loc main_v2_0)) ∗ (tcOf d).loc main_v2_1 ↦{fullShare} m ((tcOf d).loc main_v2_1)) :=
  (columns d (sco m d) (m ((tcOf d).loc main_v2_0)) (m ((tcOf d).loc main_v2_1))).symm
theorem dn0_eq (d : Dev nD) :
    (bigSep Finset.univ fun c : Fin ((K (F := F)).nCore 0) => (PP m).dn 0 d c)
      = iprop(((tcOf d).loc main_v1 ↦{fullShare} (sco m d : Buf (Elt F) ((tcOf d).loc main_v1)))
        ∗ ((tcOf d).loc main_v2_0 ↦{fullShare} (outJ (sco m d) : Buf (Elt F) ((tcOf d).loc main_v2_0)))
        ∗ (tcOf d).loc main_v2_1 ↦{fullShare} (outV (sco m d) : Buf (Elt F) ((tcOf d).loc main_v2_1))) :=
  (columns d (sco m d) (outJ (sco m d)) (outV (sco m d))).symm

theorem held1 (d : Dev nD) :
    (held (tcOf d) S10 (V1 m d) : sProp 𝕄)
      = iprop(((tcOf d).loc main_arg0 ↦{fullShare} m ((tcOf d).loc main_arg0)) ∗ ((tcOf d).loc main_arg1 ↦{fullShare} (wts m d : Buf (Elt F) ((tcOf d).loc main_arg1)))
        ∗ ((tcOf d).loc main_v0 ↦{fullShare} (toks m d : Buf (Elt F) ((tcOf d).loc main_v0))) ∗ ((tcOf d).loc main_v1 ↦{fullShare} m ((tcOf d).loc main_v1))
        ∗ ((tcOf d).loc main_v2_0 ↦{fullShare} m ((tcOf d).loc main_v2_0)) ∗ ((tcOf d).loc main_v2_1 ↦{fullShare} m ((tcOf d).loc main_v2_1))
        ∗ ((tcOf d).loc main_v3 ↦{fullShare} m ((tcOf d).loc main_v3)) ∗ ((tcOf d).loc main_v4 ↦{fullShare} m ((tcOf d).loc main_v4))
        ∗ ((tcOf d).loc main_v5 ↦{fullShare} m ((tcOf d).loc main_v5)) ∗ ((tcOf d).loc main_v6 ↦{fullShare} m ((tcOf d).loc main_v6))) := by
  rw [held_eq, V1_v0]
  repeat rw [V1_ne m d (by decide)]
  rfl

theorem held3 (d : Dev nD) :
    (held (tcOf d) S10 (V3 m d) : sProp 𝕄)
      = iprop(((tcOf d).loc main_arg0 ↦{fullShare} m ((tcOf d).loc main_arg0)) ∗ ((tcOf d).loc main_arg1 ↦{fullShare} (wts m d : Buf (Elt F) ((tcOf d).loc main_arg1)))
        ∗ ((tcOf d).loc main_v0 ↦{fullShare} (toks m d : Buf (Elt F) ((tcOf d).loc main_v0))) ∗ ((tcOf d).loc main_v1 ↦{fullShare} (sco m d : Buf (Elt F) ((tcOf d).loc main_v1)))
        ∗ ((tcOf d).loc main_v2_0 ↦{fullShare} (outJ (sco m d) : Buf (Elt F) ((tcOf d).loc main_v2_0))) ∗ ((tcOf d).loc main_v2_1 ↦{fullShare} (outV (sco m d) : Buf (Elt F) ((tcOf d).loc main_v2_1)))
        ∗ ((tcOf d).loc main_v3 ↦{fullShare} m ((tcOf d).loc main_v3)) ∗ ((tcOf d).loc main_v4 ↦{fullShare} m ((tcOf d).loc main_v4))
        ∗ ((tcOf d).loc main_v5 ↦{fullShare} m ((tcOf d).loc main_v5)) ∗ ((tcOf d).loc main_v6 ↦{fullShare} m ((tcOf d).loc main_v6))) := by
  rw [held_eq, V3_j, V3_v]
  repeat rw [V3_ne m d (by decide) (by decide)]
  rw [V2_v1]
  repeat rw [V2_ne m d (by decide)]
  rw [V1_v0]
  repeat rw [V1_ne m d (by decide)]
  rfl

theorem sub0 : (op0 (F := F)).bufs ⊆ S10 := show ({r main_arg0, r main_v0} : Finset (DevRef τ sig)) ⊆ S10 by decide
theorem sub1 : (op1 (F := F)).bufs ⊆ S10 := show ({r main_v2_0, r main_v3} : Finset (DevRef τ sig)) ⊆ S10 by decide
theorem sub2 : (op2 (F := F)).bufs ⊆ S10 := show ({r main_v3, r main_v4} : Finset (DevRef τ sig)) ⊆ S10 by decide
theorem sub3 : (op3 (F := F)).bufs ⊆ S10 := show ({r main_v2_1, r main_v5} : Finset (DevRef τ sig)) ⊆ S10 by decide
theorem sub4 : (op4 (F := F)).bufs ⊆ S10 := show ({r main_v5, r main_v6} : Finset (DevRef τ sig)) ⊆ S10 by decide

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (tcOf d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hheld, Hts, -⟩, HG⟩
  iapply (wp_hlo_within 𝒱 (tcOf d) none Set.univ (op := op0) (S := S10) sub0 (V := V0 m d)) $$ [Hb Hheld]
  · isplitl [Hb] <;> iassumption
  iintro ⟨Hb, Hheld⟩
  rw [wp_ret]
  imodintro
  ihave Hh := (show held (tcOf d) S10 (op0.result (V0 m d)) ⊢ _ from Entails.of_eq (held1 m d)) $$ Hheld
  icases Hh with ⟨Ha0, Ha1, Hv0, Hv1, Hj, Hw, H3, H4, H5, H6⟩
  ihave Hst' := (show (K (F := F)).tcSt EH d 0 ⊢ iprop((∃ W, ⌜(K (F := F)).WBelow (tcOf d) W (8 * 0)⌝ ∗ owes (tcOf d) ((K (F := F)).Otc d 0) W) ∗ _) from .rfl) $$ Hst
  icases Hst' with ⟨⟨%W, %hW, HO⟩, Hat⟩
  iapply (call0 m d)
  isplitl [Hat Hts Ha0 Hj Hw H3 H4 H5 H6]
  · iintro ⟨Hb, He⟩
    unfold entered
    icases He with ⟨Hv0, Ha1, Hv1, %W', %hW', HO⟩
    iapply ((K (F := F)).wp_run (D (F := F)) 𝒱 (EH := EH) (P := PP m) κ d 0)
    isplitr; · iexact Hctx
    isplitl [HO Hat]
    · unfold SparseCore.Cfg.tcSt
      isplitl [HO]
      · iexists W'; isplitr; · ipureintro; exact (below_none d W').mpr hW'
        iexact HO
      · iexact Hat
    isplitl [Hv1 Hj Hw]
    · rw [st0_eq]
      isplitl [Hv1]; · iexact Hv1
      isplitl [Hj] <;> iassumption
    iintro ⟨Hst, Hdn⟩
    ihave Hdn' := (Entails.of_eq (dn0_eq m d)) $$ Hdn
    icases Hdn' with ⟨Hv1, Hj, Hw⟩
    iapply (wp_hlo_within 𝒱 (tcOf d) none Set.univ (op := op1) (S := S10) sub1 (V := V3 m d)) $$ [Hb Ha0 Ha1 Hv0 Hv1 Hj Hw H3 H4 H5 H6]
    · isplitl [Hb]; · iexact Hb
      rw [held3]
      isplitl [Ha0]; · iexact Ha0
      isplitl [Ha1]; · iexact Ha1
      isplitl [Hv0]; · iexact Hv0
      isplitl [Hv1]; · iexact Hv1
      isplitl [Hj]; · iexact Hj
      isplitl [Hw]; · iexact Hw
      isplitl [H3]; · iexact H3
      isplitl [H4]; · iexact H4
      isplitl [H5] <;> iassumption
    iintro ⟨Hb, Hh⟩
    rw [wp_ret]; imodintro
    iapply (wp_hlo_within 𝒱 (tcOf d) none Set.univ (op := op2) (S := S10) sub2) $$ [Hb Hh]
    · isplitl [Hb] <;> iassumption
    iintro ⟨Hb, Hh⟩
    rw [wp_ret]; imodintro
    iapply (wp_hlo_within 𝒱 (tcOf d) none Set.univ (op := op3) (S := S10) sub3) $$ [Hb Hh]
    · isplitl [Hb] <;> iassumption
    iintro ⟨Hb, Hh⟩
    rw [wp_ret]; imodintro
    iapply (wp_hlo_within 𝒱 (tcOf d) none Set.univ (op := op4) (S := S10) sub4) $$ [Hb Hh]
    · isplitl [Hb] <;> iassumption
    iintro ⟨Hb, Hh⟩
    rw [wp_ret]; imodintro; imodintro
    isplitl [Hst]; · iexact Hst
    isplitl [Hh]; · unfold FIN V4; iexact Hh
    isplitl [Hb] <;> iassumption
  isplitl [Hb]; · iexact Hb
  isplitl [Hv0 Ha1 Hv1 HO]
  · unfold entered
    isplitl [Hv0]; · iexact Hv0
    isplitl [Ha1]; · iexact Ha1
    isplitl [Hv1]; · iexact Hv1
    iexists W; isplitr; · ipureintro; exact (below_none d W).mp hW
    iexact HO
  isplitr; · iapply ((K (F := F)).ctx_levAts κ); iexact Hctx
  iexact HG

def fq (d : Dev nD) (s' : Phys nD τ sig (Elt F)) : Prop :=
  s'.mem.mem ((tcOf d).loc main_arg0) = m ((tcOf d).loc main_arg0) ∧ s'.mem.mem ((tcOf d).loc main_arg1) = m ((tcOf d).loc main_arg1)
    ∧ s'.mem.mem ((tcOf d).loc main_v4) = V4 m d (r main_v4) ∧ s'.mem.mem ((tcOf d).loc main_v6) = V4 m d (r main_v6)

theorem hfin (d : Dev nD) (s' : Phys nD τ sig (Elt F)) : iprop(FIN m d ∗ SI s') ⊢ (⌜fq m d s'⌝ : sProp 𝕄) := by
  unfold FIN fq
  rw [held_eq, V4_arg m d (b := main_arg0) (by decide) (by decide), V4_arg m d (b := main_arg1) (by decide) (by decide)]
  iintro ⟨⟨Ha0, Ha1, -, -, -, -, -, H4, -, H6⟩, HSI⟩
  ihave H := (persistent_entails_right (SI_pointsTo_agree (st := s') (ℓ := (tcOf d).loc main_arg0) (I := Finset.univ) (q := fullShare))) $$ [HSI Ha0]
  · isplitl [HSI] <;> iassumption
  icases H with ⟨%h0, HSI, -⟩
  ihave H := (persistent_entails_right (SI_pointsTo_agree (st := s') (ℓ := (tcOf d).loc main_arg1) (I := Finset.univ) (q := fullShare))) $$ [HSI Ha1]
  · isplitl [HSI] <;> iassumption
  icases H with ⟨%h1, HSI, -⟩
  ihave H := (persistent_entails_right (SI_pointsTo_agree (st := s') (ℓ := (tcOf d).loc main_v4) (I := Finset.univ) (q := fullShare))) $$ [HSI H4]
  · isplitl [HSI] <;> iassumption
  icases H with ⟨%h4, HSI, -⟩
  ihave H := (SI_pointsTo_agree (st := s') (ℓ := (tcOf d).loc main_v6) (I := Finset.univ) (q := fullShare)) $$ [HSI H6]
  · isplitl [HSI] <;> iassumption
  icases H with %h6
  ipureintro
  exact ⟨funext fun i => h0 i (Finset.mem_univ i), funext fun i => h1 i (Finset.mem_univ i), funext fun i => h4 i (Finset.mem_univ i), funext fun i => h6 i (Finset.mem_univ i)⟩

/-- What holds when the program has run: the arguments as found, the two results as stated, every semaphore at zero. -/
def Final : PUnit × MemSt nD τ sig (Elt F) → Prop := fun z =>
  (∀ d : Dev nD, z.2.mem ((tcOf d).loc main_arg0) = m ((tcOf d).loc main_arg0) ∧ z.2.mem ((tcOf d).loc main_arg1) = m ((tcOf d).loc main_arg1)
    ∧ z.2.mem ((tcOf d).loc main_v4) = shapeCast S4x4096x8 (transpose S16384x8 [1, 0] (outJ (sco m d)) transposes_S8x16384_S16384x8_1_0) shapeCasts_S16384x8_S4x4096x8
    ∧ z.2.mem ((tcOf d).loc main_v6) = shapeCast S4x4096x8 (transpose S16384x8 [1, 0] (outV (sco m d)) transposes_S8x16384_S16384x8_1_0) shapeCasts_S16384x8_S4x4096x8)
  ∧ z.2.sem = fun _ => 0

theorem run_main [∀ e, Nonempty (Elt F e)] : θ_run (Cert.KernelIdeal.defs (F := F)) (Cert.KernelIdeal.threads (F := F)) ⟨m, fun _ => 0, ρ⟩ (Final m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ facts)
    (fun q _ => match q with | 0 => SparseCore.Cfg.VecSplit.of_plain (vecSplit _ _ _))
    m ρ main (fun d => G (F := F) d) (FIN m) (u₀ (F := F)) (sep_elim_left.trans (hu₀ _ _ _)) (hmain m ρ) (fq m) (hfin m) (Final m)
    (fun s' h hz => ⟨fun d => by
      obtain ⟨h0, h1, h4, h6⟩ := h d
      rw [V4_v4] at h4
      rw [V4_v6] at h6
      exact ⟨h0, h1, h4, h6⟩, hz⟩)

end Main

end Cert.Proof.KernelIdeal

end
-- ==== Proof.Frames.lean ====
module

public import proofs.«01_k».proof.Defs
public import proofs.«01_k».proof.Proof.KernelRun
public import proofs.«01_k».proof.Proof.KernelIdealRun
public import proofs.«01_k».proof.Proof.Gen.ReferenceIdeal.Run

/-! # The frames

Each program runs to its end, leaves its arguments as they were and every semaphore counter at zero. Of the kernel this is what
its run says when the results are dropped; of the reference it is its value run, the machine having no semaphore to leave behind. -/

@[expose] public section

noncomputable section

namespace Cert.Proof

open Idealize.ShloMosaic Idealize.SL.Sem
open Cert.Kernel.Gen Cert.KernelIdeal.Gen Cert.ReferenceIdeal.Gen

theorem frame_kernel : Cert.quiescent_Kernel := fun m ρ _ =>
  (θ_run Cert.Kernel.defs _ _).mono (fun _ h => ⟨fun c => ⟨(h.1 c).1, (h.1 c).2.1⟩, h.2⟩)
    (Cert.Proof.Kernel.run_main (F := Bits) m ρ)

theorem frame_kernelIdeal : Cert.quiescent_KernelIdeal := fun m ρ _ =>
  (θ_run Cert.KernelIdeal.defs _ _).mono (fun _ h => ⟨fun c => ⟨(h.1 c).1, (h.1 c).2.1⟩, h.2⟩)
    (Cert.Proof.KernelIdeal.run_main (F := Ideal) m ρ)

theorem frame_referenceIdeal : Cert.quiescent_ReferenceIdeal := fun m ρ _ =>
  (θ_run Cert.ReferenceIdeal.defs _ _).mono
    (fun r h => ⟨fun c => ⟨(h c).2.2.1, (h c).2.2.2⟩, sem_eq_zero_of_no_sems (by decide) r.2⟩)
    (Cert.ReferenceIdeal.Value.run (F := Ideal) m ρ)

end Cert.Proof

end
-- ==== Proof.Softmax.lean ====
module

public import Idealize.ShloMosaic.Lib.Pointwise

/-! # The scores of one token, over the extended reals

The kernel's score array and the reference's hold the same function of the 64 logits of a token: the exponential of the
difference from the greatest logit, over the sum of these exponentials (`soft`). -/

@[expose] public section

set_option maxRecDepth 16384

noncomputable section

namespace Cert.Proof.Softmax

open Idealize.ShloMosaic

/-- The greatest of the logits. -/
def top (z : Fin 64 → EReal) : EReal := Finset.univ.fold max ⊥ z

/-- The softmax of the logits. -/
def soft (z : Fin 64 → EReal) (e : Fin 64) : EReal :=
  Ideal.div (Ideal.exp (z e - top z)) (∑ e' : Fin 64, Ideal.exp (z e' - top z))

/-- The logits of token `t`. -/
def logits {n : ℕ} (x : (⟨2, ![n, 2048]⟩ : Shape).Idx → EReal) (w : (⟨2, ![64, 2048]⟩ : Shape).Idx → EReal) (t : Fin n) (e : Fin 64) : EReal :=
  ∑ k : Fin 2048, x (ix2 t k) * w (ix2 e k)

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

theorem ofBits_one : Ideal.ofBits .f32 0x3F800000#32 = 1 := by
  simp [Ideal.ofBits, Ideal.ieee]
  rw [← EReal.coe_mul]
  norm_num

/-- Where the logits are finite the greatest is one of them. -/
theorem top_mem (z : Fin 64 → EReal) : ∃ e, top z = z e := by
  obtain ⟨e, -, h⟩ := Finset.exists_mem_eq_sup Finset.univ ⟨(0 : Fin 64), Finset.mem_univ _⟩ z
  exact ⟨e, h⟩

/-- Of finite logits the softmax is a quotient of reals with a positive denominator common to the token. -/
theorem soft_coe (r : Fin 64 → ℝ) :
    ∃ a s : ℝ, 0 < s ∧ ∀ e, soft (fun e => (r e : EReal)) e = ((Real.exp (r e - a) * (1 / s) : ℝ) : EReal) := by
  obtain ⟨e₀, h₀⟩ := top_mem fun e => (r e : EReal)
  have hs : 0 < ∑ e : Fin 64, Real.exp (r e - r e₀) :=
    Finset.sum_pos (fun _ _ => Real.exp_pos _) ⟨0, Finset.mem_univ _⟩
  refine ⟨r e₀, _, hs, fun e => ?_⟩
  have hexp : ∀ e, Ideal.exp ((r e : EReal) - (r e₀ : EReal)) = ((Real.exp (r e - r e₀) : ℝ) : EReal) := fun e => by
    rw [← EReal.coe_sub, Ideal.exp_coe]
  have hsum : ∑ e : Fin 64, ((Real.exp (r e - r e₀) : ℝ) : EReal) = ((∑ e : Fin 64, Real.exp (r e - r e₀) : ℝ) : EReal) :=
    (map_sum (⟨⟨Real.toEReal, EReal.coe_zero⟩, EReal.coe_add⟩ : ℝ →+ EReal) _ _).symm
  simp only [soft, h₀, hexp, hsum]
  rw [Ideal.div_coe hs.ne', ← EReal.coe_mul]

variable {z : Fin 64 → EReal} (h : ∀ e, ∃ r : ℝ, z e = r)
include h

/-- Different finite logits have different scores. -/
theorem soft_injective (hz : Function.Injective z) : Function.Injective (soft z) := by
  choose r hr using h
  obtain rfl : z = fun e => (r e : EReal) := funext hr
  obtain ⟨a, s, hs, h⟩ := soft_coe r
  intro e e' he
  rw [h, h, EReal.coe_eq_coe_iff, mul_right_cancel_iff_of_pos (one_div_pos.mpr hs), Real.exp_eq_exp] at he
  exact hz (congrArg Real.toEReal (sub_left_injective he))

/-- A score of finite logits is above what the slots start from. -/
theorem start_lt_soft (e : Fin 64) : Ideal.ofBits .f32 0xBF800000#32 < soft z e := by
  choose r hr using h
  obtain rfl : z = fun e => (r e : EReal) := funext hr
  obtain ⟨a, s, hs, h⟩ := soft_coe r
  have h1 : Ideal.ofBits .f32 0xBF800000#32 = ((-1 : ℝ) : EReal) := by
    simp [Ideal.ofBits, Ideal.ieee]
    rw [← EReal.coe_mul]
    norm_num
  rw [h1, h, EReal.coe_lt_coe_iff]
  have := mul_pos (Real.exp_pos (r e - a)) (one_div_pos.mpr hs)
  linarith

end Cert.Proof.Softmax

end
-- ==== Proof.Precondition.lean ====
module

public import proofs.«01_k».proof.Pre_logits_finite_and_different
public import proofs.«01_k».proof.Proof.Softmax

/-! # What the precondition says of one token's logits -/

@[expose] public section

set_option maxRecDepth 16384

noncomputable section

namespace Cert.Proof.Softmax

open Idealize.ShloMosaic
open Cert.Pre_logits_finite_and_different

/-- The side conditions of the predicate's operations. -/
theorem preFacts : Cert.Pre_logits_finite_and_different.Facts := by
  constructor <;> decide

variable [Facts] (x : FVec Ideal S4x4096x2048 .f32) (w : FVec Ideal S64x2048 .f32)

theorem logits_cast (t : Fin 16384) (e : Fin 64) :
    logits (shapeCast S16384x2048 x Facts.shapeCasts_S4x4096x2048_S16384x2048) w t e
      = ∑ k : Fin 2048, x (ix3 ⟨t.val / 4096, by omega⟩ ⟨t.val % 4096, by omega⟩ k) * w (ix2 e k) := by
  pointwise [logits]

theorem finite_of_pre (h : (fn x w).1 = fun _ => 1#1) (t : Fin 16384) (e : Fin 64) :
    ∃ r : ℝ, logits (shapeCast S16384x2048 x Facts.shapeCasts_S4x4096x2048_S16384x2048) w t e = r := by
  have h := congrFun h (ix2 t e)
  revert h
  rw [logits_cast]
  pointwise [fn]
  generalize ∑ k : Fin 2048, x (ix3 ⟨t.val / 4096, _⟩ ⟨t.val % 4096, _⟩ k) * w (ix2 e k) = z
  intro h
  rw [ofBits_top] at h
  change BitVec.ofBool (decide (max z (-z) < ⊤)) = 1#1 at h
  induction z using EReal.rec with
  | bot => exact absurd h (by simp)
  | top => exact absurd h (by simp)
  | coe r => exact ⟨r, rfl⟩

theorem injective_of_pre (h : (fn x w).2 = fun _ => 1#1) (t : Fin 16384) :
    Function.Injective (logits (shapeCast S16384x2048 x Facts.shapeCasts_S4x4096x2048_S16384x2048) w t) := by
  intro e e' he
  have h := congrFun h (ix3 t e e')
  revert h
  rw [logits_cast, logits_cast] at he
  pointwise [fn]
  rw [he]
  intro h
  simp [IntOp.ori, IntOp.cmpi] at h
  have hb : (BitVec.ofNat 32 e.val == BitVec.ofNat 32 e'.val) = true := by
    cases hb : BitVec.ofNat 32 e.val == BitVec.ofNat 32 e'.val
    · rw [hb] at h
      exact absurd h (by decide)
    · rfl
  have := congrArg BitVec.toNat (eq_of_beq hb)
  simp only [BitVec.toNat_ofNat] at this
  omega

end Cert.Proof.Softmax

end
-- ==== Proof.Sorted.lean ====
module

public import proofs.«01_k».proof.Proof.Insert
public import Idealize.ShloMosaic.Lib.SortPrefix
public import Idealize.ShloMosaic.PureOps.Ideal.Laws

/-! # What the insertion leaves in the slots

At one lane the slots hold a list of the vectors met so far, greatest first, and after the list's end the starting value.
A vector pushed into such a list is placed by the exchanges where it belongs (`push`), so the list stays a rearrangement of the
vectors met and stays descending. When the values are pairwise different there is only one such list. -/

@[expose] public section

noncomputable section

namespace Cert.Proof.Sorted

open Idealize.ShloMosaic

section List

variable {α β ι : Type} [LinearOrder α]

/-- `a` meets the list's entries in turn and changes places with each one that it exceeds. -/
def push (x : ι → α) (a : ι) : List ι → List ι
  | [] => [a]
  | c :: l => if x c < x a then a :: push x c l else c :: push x a l

/-- The list read at a slot: `g` of the entry there, `d` past the end. -/
def rd (g : ι → β) (d : β) (l : List ι) (s : ℕ) : β := (l[s]?).elim d g

theorem perm_push (x : ι → α) (l : List ι) : ∀ a, (push x a l).Perm (a :: l) := by
  induction l with
  | nil => exact fun a => List.Perm.refl _
  | cons c l ih =>
    intro a
    rw [push]
    split
    · exact (ih c).cons a
    · exact ((ih a).cons c).trans (List.Perm.swap a c l)

theorem descending_push (x : ι → α) (l : List ι) (hl : l.Pairwise fun a b => x b ≤ x a) :
    ∀ a, (push x a l).Pairwise fun a b => x b ≤ x a := by
  induction l with
  | nil => exact fun a => List.pairwise_singleton _ _
  | cons c l ih =>
    intro a
    rw [List.pairwise_cons] at hl
    rw [push]
    split
    · rename_i h
      refine List.pairwise_cons.mpr ⟨fun b hb => ?_, ih hl.2 c⟩
      rcases List.mem_cons.mp ((perm_push x l c).mem_iff.mp hb) with rfl | hb
      · exact h.le
      · exact (hl.1 b hb).trans h.le
    · rename_i h
      refine List.pairwise_cons.mpr ⟨fun b hb => ?_, ih hl.2 a⟩
      rcases List.mem_cons.mp ((perm_push x l a).mem_iff.mp hb) with rfl | hb
      · exact not_lt.mp h
      · exact hl.1 b hb

/-- Slots that hold a list take in `a` by the exchanges: `c s` is the value and `p s` what travels beside it at slot `s`. -/
theorem push_read (x : ι → α) (b : α) (g : ι → β) (d : β) (l : List ι) (hb : ∀ a, b < x a) :
    ∀ (a : ι) (c : ℕ → α) (p : ℕ → β), c 0 = x a → p 0 = g a →
      (∀ s, c (s + 1) = if rd x b l s < c s then rd x b l s else c s) →
      (∀ s, p (s + 1) = if rd x b l s < c s then rd g d l s else p s) →
      ∀ s, (if rd x b l s < c s then p s else rd g d l s) = rd g d (push x a l) s := by
  induction l with
  | nil =>
    intro a c p hc hp hcs hps s
    have hcb : ∀ s, c (s + 1) = b := by
      intro s
      induction s with
      | zero => rw [hcs, hc]; exact if_pos (hb a)
      | succ s ih => rw [hcs, ih]; exact ite_self _
    cases s with
    | zero => rw [hc, hp]; exact if_pos (hb a)
    | succ s => rw [hcb]; exact if_neg (lt_irrefl b)
  | cons e l ih =>
    intro a c p hc hp hcs hps s
    have step : ∀ s, rd x b (e :: l) (s + 1) = rd x b l s := fun _ => rfl
    have stepg : ∀ s, rd g d (e :: l) (s + 1) = rd g d l s := fun _ => rfl
    have h0 : rd x b (e :: l) 0 = x e := rfl
    have h0g : rd g d (e :: l) 0 = g e := rfl
    have hc1 := hcs 0
    have hp1 := hps 0
    rw [h0, hc] at hc1 hp1
    rw [h0g, hp] at hp1
    have hcs' : ∀ s, c (s + 1 + 1) = if rd x b l s < c (s + 1) then rd x b l s else c (s + 1) := fun s => hcs (s + 1)
    have hps' : ∀ s, p (s + 1 + 1) = if rd x b l s < c (s + 1) then rd g d l s else p (s + 1) := fun s => hps (s + 1)
    rw [push]
    by_cases h : x e < x a
    · rw [if_pos h] at hc1 hp1 ⊢
      cases s with
      | zero => rw [h0, hc, if_pos h, hp]; rfl
      | succ s => exact ih e (fun s => c (s + 1)) (fun s => p (s + 1)) hc1 hp1 hcs' hps' s
    · rw [if_neg h] at hc1 hp1 ⊢
      cases s with
      | zero => rw [h0, hc, if_neg h]; rfl
      | succ s => exact ih a (fun s => c (s + 1)) (fun s => p (s + 1)) hc1 hp1 hcs' hps' s

/-- The entries `q 0, …, q (n − 1)` pushed one after another. -/
def pushed (x : ι → α) (q : ℕ → ι) : ℕ → List ι
  | 0 => []
  | n + 1 => push x (q n) (pushed x q n)

theorem perm_pushed (x : ι → α) (q : ℕ → ι) (n : ℕ) : (pushed x q n).Perm ((List.range n).map q) := by
  induction n with
  | zero => exact List.Perm.refl _
  | succ n ih =>
    rw [List.range_succ, List.map_append]
    exact ((perm_push x _ _).trans (ih.cons _)).trans (List.perm_append_comm (l₁ := [q n]))

theorem descending_pushed (x : ι → α) (q : ℕ → ι) (n : ℕ) : (pushed x q n).Pairwise fun a b => x b ≤ x a := by
  induction n with
  | zero => exact List.Pairwise.nil
  | succ n ih => exact descending_push x _ ih _

end List

/-- "The position with the greater value comes first." -/
def before {α : Type} [LinearOrder α] {n : ℕ} (x : Fin n → α) (k k' : Fin n) : Bool := decide (x k' < x k)

/-- The sorted positions, read at a slot. -/
theorem rd_sortPositions {β : Type} {n : ℕ} (B : Fin n → Fin n → Bool) (g : Fin n → β) (d : β) (k : Fin n) :
    rd g d (sortPositions n B) k.val = g (sortedFrom B k) := by
  unfold rd sortedFrom
  rw [List.getElem?_eq_getElem (by rw [length_sortPositions]; exact k.isLt)]
  rfl

/-- Of pairwise different values, all pushed in, slot `k` reads the entry that the stable sort puts at position `k`. -/
theorem rd_pushed {α β : Type} [LinearOrder α] (x : Fin 64 → α) (hx : Function.Injective x) (g : Fin 64 → β) (d : β) (k : Fin 64) :
    rd g d (pushed x (Fin.ofNat 64) 64) k.val = g (sortedFrom (before x) k) := by
  have hB : StrictTotalBefore (before x) :=
    { irrefl := fun a => by simp [before]
      trans := fun a b c h h' => by
        simp only [before, decide_eq_true_eq] at h h' ⊢
        exact h'.trans h
      total := fun a b h => by
        simp only [before, decide_eq_true_eq]
        exact (lt_or_gt_of_ne fun e => h (hx e)).symm }
  have hp : (pushed x (Fin.ofNat 64) 64).Perm (List.finRange 64) := by
    have := perm_pushed x (Fin.ofNat 64) 64
    have e : (List.range 64).map (Fin.ofNat 64) = List.finRange 64 := by decide
    rwa [e] at this
  have hd := descending_pushed x (Fin.ofNat 64) 64
  generalize pushed x (Fin.ofNat 64) 64 = l at hp hd ⊢
  have hs : l = sortPositions 64 (before x) := hB.eq_stableSort_of_sorted hp (hd.imp fun h => by simpa [before] using h)
  rw [hs]
  exact rd_sortPositions _ _ _ _

end Cert.Proof.Sorted

end
-- ==== Proof.Slots.lean ====
module

public import proofs.«01_k».proof.Proof.Sorted
public import Idealize.ShloMosaic.Lib.Pipeline.Value
public import Idealize.ShloMosaic.Lib.Pointwise.Index

/-! # The slots and the eight greatest, over the extended reals

Both sides are read at one column (one token): the slots after all 64 vectors, and the host's selection of the eight greatest.
Where the 64 values are different and above the starting value, both give the entries of the sorted column. -/

@[expose] public section

noncomputable section

namespace Cert.Proof.Sorted

open Idealize.ShloMosaic Cert.Proof.Insert

theorem select_ogt {β : Type} (a b : EReal) (p q : β) :
    Scalar.select (FloatOps.cmpf (F := Ideal) (φ := .f32) .ogt a b) p q = if b < a then p else q := by
  rw [Ideal.cmpf_def]
  by_cases h : b < a <;> simp [Ideal.cmp, Scalar.select, h]

/-- The slots after `n` vectors, at one lane. -/
theorem slots_read {S : Shape} (X : ℕ → FVec Ideal S .f32) (i : S.Idx) (x : Fin 64 → EReal)
    (hX : ∀ e < 64, X e i = x (Fin.ofNat 64 e)) (hx : ∀ e, Ideal.ofBits .f32 0xBF800000#32 < x e) :
    ∀ n ≤ 64, (∀ s, rd x (Ideal.ofBits .f32 0xBF800000#32) (pushed x (Fin.ofNat 64) n) s = slotV X n s i)
      ∧ ∀ s, rd (fun e : Fin 64 => BitVec.ofNat 32 e.val) (BitVec.ofNat 32 0) (pushed x (Fin.ofNat 64) n) s = slotJ X n s i := by
  intro n
  induction n with
  | zero => exact fun _ => ⟨fun _ => rfl, fun _ => rfl⟩
  | succ n ih =>
    intro hn
    obtain ⟨hV, hJ⟩ := ih (by omega)
    have hc : ∀ s, carryV (slotV X n) (X n) (s + 1) i
        = if rd x (Ideal.ofBits .f32 0xBF800000#32) (pushed x (Fin.ofNat 64) n) s < carryV (slotV X n) (X n) s i
          then rd x (Ideal.ofBits .f32 0xBF800000#32) (pushed x (Fin.ofNat 64) n) s else carryV (slotV X n) (X n) s i := by
      intro s
      rw [hV]
      exact select_ogt _ _ _ _
    constructor
    · intro s
      refine (push_read x _ x _ _ hx (Fin.ofNat 64 n) (fun s => carryV (slotV X n) (X n) s i)
        (fun s => carryV (slotV X n) (X n) s i) (hX n (by omega)) (hX n (by omega)) hc hc s).symm.trans ?_
      rw [hV]
      exact (select_ogt _ _ _ _).symm
    · intro s
      refine (push_read x _ (fun e : Fin 64 => BitVec.ofNat 32 e.val) (BitVec.ofNat 32 0) _ hx (Fin.ofNat 64 n)
        (fun s => carryV (slotV X n) (X n) s i)
        (fun s => carryJ (slotV X n) (X n) (slotJ X n) (broadcast S (BitVec.ofNat 32 n)) s i) (hX n (by omega)) ?_ hc ?_ s).symm.trans ?_
      · show BitVec.ofNat 32 n = BitVec.ofNat 32 (n % 64)
        rw [Nat.mod_eq_of_lt (by omega)]
      · intro s
        rw [hV, hJ]
        exact select_ogt _ _ _ _
      · rw [hV, hJ]
        exact (select_ogt _ _ _ _).symm

/-- After all 64 vectors: the sorted values and their positions. -/
theorem slotV_sorted {S : Shape} (X : ℕ → FVec Ideal S .f32) (i : S.Idx) (x : Fin 64 → EReal)
    (hX : ∀ e < 64, X e i = x (Fin.ofNat 64 e)) (hx : ∀ e, Ideal.ofBits .f32 0xBF800000#32 < x e) (hi : Function.Injective x)
    (k : Fin 64) : slotV X 64 k.val i = x (sortedFrom (before x) k) := by
  rw [← (slots_read X i x hX hx 64 le_rfl).1]
  exact rd_pushed x hi x _ k

theorem slotJ_sorted {S : Shape} (X : ℕ → FVec Ideal S .f32) (i : S.Idx) (x : Fin 64 → EReal)
    (hX : ∀ e < 64, X e i = x (Fin.ofNat 64 e)) (hx : ∀ e, Ideal.ofBits .f32 0xBF800000#32 < x e) (hi : Function.Injective x)
    (k : Fin 64) : slotJ X 64 k.val i = BitVec.ofNat 32 (sortedFrom (before x) k).val := by
  rw [← (slots_read X i x hX hx 64 le_rfl).2]
  exact rd_pushed x hi _ _ k

/-! ## The host's selection -/

section Host

variable {n w v : ℕ}

theorem along_ix2 (t : Fin n) (e e' : Fin w) :
    (ix2 t e : (⟨2, ![n, w]⟩ : Shape).Idx).along (1 : Fin 2) e' = ix2 t e' := by
  funext a
  match a with
  | ⟨0, _⟩ => rfl
  | ⟨1, _⟩ => rfl

/-- Both operands of a sort along the rows are read at the same position. -/
theorem sort2_rows {α β : Type} (cmp : α × β → α × β → BitVec 1) (x : (⟨2, ![n, w]⟩ : Shape).Idx → α)
    (y : (⟨2, ![n, w]⟩ : Shape).Idx → β) (t : Fin n) (e : Fin w) (B : Fin w → Fin w → Bool)
    (hB : ∀ k k', (cmp (x (ix2 t k), y (ix2 t k)) (x (ix2 t k'), y (ix2 t k')) == 1#1) = B k k') :
    (Host.sort2 ⟨2, ![n, w]⟩ 1 cmp x y).1 (ix2 t e) = x (ix2 t (sortedFrom B e))
      ∧ (Host.sort2 ⟨2, ![n, w]⟩ 1 cmp x y).2 (ix2 t e) = y (ix2 t (sortedFrom B e)) := by
  have hB' : B = fun k k' : Fin w => cmp (x ((ix2 t e : (⟨2, ![n, w]⟩ : Shape).Idx).along (1 : Fin 2) k),
        y ((ix2 t e : (⟨2, ![n, w]⟩ : Shape).Idx).along (1 : Fin 2) k))
      (x ((ix2 t e : (⟨2, ![n, w]⟩ : Shape).Idx).along (1 : Fin 2) k'),
        y ((ix2 t e : (⟨2, ![n, w]⟩ : Shape).Idx).along (1 : Fin 2) k')) == 1#1 := by
    funext k k'
    rw [along_ix2, along_ix2]
    exact (hB k k').symm
  rw [← along_ix2 t e (sortedFrom B e), hB']
  exact ⟨rfl, rfl⟩

/-- The host's selection of the greatest, read at a place of its results. -/
theorem topK_read (X : (⟨2, ![n, w]⟩ : Shape).Idx → EReal) (h : (⟨2, ![n, w]⟩ : Shape).Slices (fun _ => 0) ⟨2, ![n, v]⟩)
    (hv : v ≤ w) (t : Fin n) (k : Fin v) :
    (Host.topK ⟨2, ![n, v]⟩ 1 (FloatOps.cmpfTotal (F := Ideal) (φ := .f32) .gt) X h).1 (ix2 t k)
        = X (ix2 t (sortedFrom (before fun e => X (ix2 t e)) (k.castLE hv)))
      ∧ (Host.topK ⟨2, ![n, v]⟩ 1 (FloatOps.cmpfTotal (F := Ideal) (φ := .f32) .gt) X h).2 (ix2 t k)
        = BitVec.ofNat 32 (sortedFrom (before fun e => X (ix2 t e)) (k.castLE hv)).val := by
  have hi : ∀ {α : Type} (f : (⟨2, ![n, w]⟩ : Shape).Idx → α),
      extractStridedSlice ⟨2, ![n, v]⟩ (fun _ => 0) f h (ix2 t k) = f (ix2 t (k.castLE hv)) := by
    intro α f
    refine congrArg f (funext fun a => Fin.ext ?_)
    match a with
    | ⟨0, _⟩ => exact Nat.zero_add _
    | ⟨1, _⟩ => exact Nat.zero_add _
  have hB : ∀ e e' : Fin w, (FloatOps.cmpfTotal (F := Ideal) (φ := .f32) .gt (X (ix2 t e)) (X (ix2 t e')) == 1#1)
      = before (fun e => X (ix2 t e)) e e' := by
    intro e e'
    rw [Ideal.cmpfTotal_def]
    by_cases h : X (ix2 t e') < X (ix2 t e) <;> simp [Ideal.cmp, before, h, CmpDirection.ordered]
  have hs := sort2_rows (fun l r : EReal × BitVec 32 => FloatOps.cmpfTotal (F := Ideal) (φ := .f32) .gt l.1 r.1) X
    (iotaInDim ⟨2, ![n, w]⟩ 32 1) t (k.castLE hv) _ hB
  exact ⟨(hi _).trans hs.1, (hi _).trans hs.2⟩

end Host

end Cert.Proof.Sorted

end
-- ==== Proof.SoftmaxKernel.lean ====
module

public import proofs.«01_k».proof.Proof.KernelIdealScores
public import proofs.«01_k».proof.Proof.Softmax

/-! # The kernel's scores, read at one expert and token -/

@[expose] public section

set_option maxRecDepth 16384

noncomputable section

namespace Cert.Proof.Softmax

open Idealize.ShloMosaic

open Cert.KernelIdeal Cert.KernelIdeal.Gen Cert.Proof.KernelIdeal

theorem softCols_apply (w : FVec Ideal S64x2048 .f32) (x : FVec Ideal S2048x2048 .f32) (e : Fin 64) (c : Fin 2048) :
    softCols w x (ix2 e c) = soft (logits x w c) e := by
  pointwise [softCols, soft, logits, top]
  simp only [ofBits_bot, mul_comm]

end Cert.Proof.Softmax

end
-- ==== Proof.SoftmaxReference.lean ====
module

public import proofs.«01_k».proof.Proof.Gen.ReferenceIdeal.Run
public import proofs.«01_k».proof.Proof.Softmax

/-! # The reference's scores, read at one token and expert -/

@[expose] public section

set_option maxRecDepth 16384

noncomputable section

namespace Cert.Proof.Softmax

open Idealize.ShloMosaic

open Cert.ReferenceIdeal Cert.ReferenceIdeal.Facts Cert.ReferenceIdeal.Gen

/-- The logits as the reference computes them. -/
def refLogits (x : FVec Ideal S16384x2048 .f32) (w : FVec Ideal S64x2048 .f32) : FVec Ideal S16384x64 .f32 :=
  Host.dotGeneral dot_S16384x2048_S2048x64_S16384x64_1_0_0_1_n_n none x (transpose S2048x64 [1, 0] w transposes_S64x2048_S2048x64_1_0)

/-- The exponentials as the reference computes them. -/
def refExps (z : FVec Ideal S16384x64 .f32) : FVec Ideal S16384x64 .f32 :=
  Host.exp (subf z (broadcastInDim S16384x64 ![0, 1] bcast_S16384x1_S16384x64_0_1
    (broadcastInDim S16384x1 ![0] bcast_S16384_S16384x1_0
      (maximumf (broadcastInDim S16384 ![] bcast_S_S16384 (constant S_ .f32 0xFF800000#32))
        (Host.reduce FloatOps.maximumf z (constant S_ .f32 0xFF800000#32) reducesTo_S16384x64_S16384_d1 h_S_)))))

/-- The scores as the reference computes them. -/
def refScores (z : FVec Ideal S16384x64 .f32) : FVec Ideal S16384x64 .f32 :=
  Host.divf (refExps z) (broadcastInDim S16384x64 ![0, 1] bcast_S16384x1_S16384x64_0_1
    (broadcastInDim S16384x1 ![0] bcast_S16384_S16384x1_0
      (Host.reduceAdd (refExps z) (constant S_ .f32 0x00000000#32) reducesTo_S16384x64_S16384_d1 h_S_)))

theorem refLogits_apply (x : FVec Ideal S16384x2048 .f32) (w : FVec Ideal S64x2048 .f32) (t : Fin 16384) (e : Fin 64) :
    refLogits x w (ix2 t e) = logits x w t e := by
  pointwise [refLogits, logits]

theorem refScores_apply (z : FVec Ideal S16384x64 .f32) (t : Fin 16384) (e : Fin 64) :
    refScores z (ix2 t e) = soft (fun e => z (ix2 t e)) e := by
  pointwise [refScores, refExps, soft, top]
  simp only [ofBits_bot, bot_sup_eq]

end Cert.Proof.Softmax

end
-- ==== Proof.Value.lean ====
module

public import proofs.«01_k».proof.Proof.Slots
public import proofs.«01_k».proof.Proof.SoftmaxKernel
public import proofs.«01_k».proof.Proof.SoftmaxReference
public import proofs.«01_k».proof.Proof.KernelIdealTile

/-! # The kernel's slots hold what the reference selects

Where the logits of every token are finite and different, both hold the eight greatest scores in descending order and the experts
they are of. -/

@[expose] public section

set_option maxRecDepth 16384

noncomputable section

namespace Cert.Proof.Softmax

open Idealize.ShloMosaic
open Cert.Proof.Sorted Cert.Proof.KernelIdeal Cert.Proof.Insert

/-- The kernel's score of expert `e` at token `t`. -/
theorem scores_apply (x : FVec Ideal Cert.KernelIdeal.S16384x2048 .f32) (w : FVec Ideal Cert.KernelIdeal.S64x2048 .f32)
    (e : Fin 64) (t : Fin 16384) : scores x w (ix2 e t) = soft (logits x w t) e := by
  have h : ∀ k : Fin 2048, rows x (t.val / 2048) (ix2 (Fin.ofNat 2048 t.val) k) = x (ix2 t k) := fun k => by
    have hi : (Fin.ofNat 16384 (2048 * (t.val / 2048) + t.val % 2048)) = t := by
      rw [Nat.div_add_mod]
      exact Fin.ofNat_val_eq_self t
    exact congrArg (fun i => x (ix2 i k)) hi
  refine (softCols_apply w (rows x (t.val / 2048)) e (Fin.ofNat 2048 t.val)).trans ?_
  congr 1
  funext e
  exact Finset.sum_congr rfl fun k _ => congrArg (· * w (ix2 e k)) (h k)

section Slots

variable (f : (⟨2, ![64, 16384]⟩ : Shape).Idx → EReal) (t : Fin 16384) (hx : ∀ e, Ideal.ofBits .f32 0xBF800000#32 < f (ix2 e t))
    (hi : Function.Injective fun e => f (ix2 e t))

theorem lanes_apply (e : ℕ) : lanes f (t.val / 16) e (ix1 (Fin.ofNat 16 t.val)) = f (ix2 (Fin.ofNat 64 e) t) := by
  have h : (Fin.ofNat 16384 (16 * (t.val / 16) + t.val % 16)) = t := by
    rw [Nat.div_add_mod]
    exact Fin.ofNat_val_eq_self t
  exact congrArg (fun i => f (ix2 (Fin.ofNat 64 e) i)) h

include hx hi

/-- The values the slots of token `t` end with are its greatest scores. -/
theorem outV_apply (k : Fin 8) : outV (F := Ideal) f (ix2 k t) = f (ix2 (sortedFrom (before fun e => f (ix2 e t)) (k.castLE (by omega))) t) :=
  slotV_sorted (lanes f (t.val / 16)) (ix1 (Fin.ofNat 16 t.val)) (fun e => f (ix2 e t)) (fun e _ => lanes_apply f t e) hx hi
    (k.castLE (by omega))

/-- The words the slots of token `t` end with are the experts of its greatest scores. -/
theorem outJ_apply (k : Fin 8) :
    outJ (F := Ideal) f (ix2 k t) = BitVec.ofNat 32 (sortedFrom (before fun e => f (ix2 e t)) (k.castLE (by omega))).val :=
  slotJ_sorted (lanes f (t.val / 16)) (ix1 (Fin.ofNat 16 t.val)) (fun e => f (ix2 e t)) (fun e _ => lanes_apply f t e) hx hi
    (k.castLE (by omega))

end Slots

section Equal

open Cert.ReferenceIdeal Cert.ReferenceIdeal.Facts Cert.ReferenceIdeal.Gen

variable (x : FVec Ideal S16384x2048 .f32) (w : FVec Ideal S64x2048 .f32)

theorem reference_apply (t : Fin 16384) (e : Fin 64) : refScores (refLogits x w) (ix2 t e) = soft (logits x w t) e := by
  rw [refScores_apply]
  congr 1
  funext e
  exact refLogits_apply x w t e

theorem scores_eq (t : Fin 16384) : (fun e => scores x w (ix2 e t)) = fun e => refScores (refLogits x w) (ix2 t e) :=
  funext fun e => (scores_apply x w e t).trans (reference_apply x w t e).symm

variable (hz : ∀ t e, ∃ r : ℝ, logits x w t e = r) (hi : ∀ t, Function.Injective (logits x w t))
include hz hi

theorem above (t : Fin 16384) (e : Fin 64) : Ideal.ofBits .f32 0xBF800000#32 < scores x w (ix2 e t) := by
  rw [scores_apply]
  exact start_lt_soft (hz t) e

theorem different (t : Fin 16384) : Function.Injective fun e : Fin 64 => scores x w (ix2 e t) := by
  rw [show (fun e : Fin 64 => scores x w (ix2 e t)) = soft (logits x w t) from funext fun e => scores_apply x w e t]
  exact soft_injective (hz t) (hi t)

/-- The experts selected. -/
theorem words_eq :
    transpose S16384x8 [1, 0] (outJ (F := Ideal) (scores x w)) Cert.KernelIdeal.Gen.transposes_S8x16384_S16384x8_1_0
      = (Host.topK S16384x8 1 (FloatOps.cmpfTotal (F := Ideal) (φ := .f32) .gt) (refScores (refLogits x w)) sliceFits_S16384x64_S16384x8).2 := by
  funext j
  idx_vars j
  pointwise []
  rw [outJ_apply _ _ (above x w hz hi _) (different x w hz hi _), (topK_read _ _ (by omega) _ _).2, scores_eq]

/-- Their scores. -/
theorem values_eq :
    transpose S16384x8 [1, 0] (outV (F := Ideal) (scores x w)) Cert.KernelIdeal.Gen.transposes_S8x16384_S16384x8_1_0
      = mulf ((Host.topK S16384x8 1 (FloatOps.cmpfTotal (F := Ideal) (φ := .f32) .gt) (refScores (refLogits x w)) sliceFits_S16384x64_S16384x8).1)
          (broadcastInDim S16384x8 ![] bcast_S_S16384x8 (constant S_ .f32 0x3F800000#32)) := by
  funext j
  idx_vars j
  pointwise []
  rw [outV_apply _ _ (above x w hz hi _) (different x w hz hi _), (topK_read _ _ (by omega) _ _).1, scores_eq]
  exact (scores_apply x w _ _).trans (reference_apply x w _ _).symm

end Equal

end Cert.Proof.Softmax

end
-- ==== Proof.Algebraic.lean ====
module

public import proofs.«01_k».proof.Defs
public import proofs.«01_k».proof.Proof.KernelIdealRun
public import proofs.«01_k».proof.Proof.Precondition
public import proofs.«01_k».proof.Proof.Value

/-! # The kernel returns what the reference returns -/

@[expose] public section

noncomputable section

namespace Cert.Proof

open Idealize.ShloMosaic Idealize.SL.Sem
open Cert.KernelIdeal.Gen Cert.ReferenceIdeal.Gen

theorem algebraic : Cert.algebraic_KernelIdeal_ReferenceIdeal_pre_logits_finite_and_different
    (hPre_logits_finite_and_different := Softmax.preFacts) := by
  intro m g m' g' hp ha
  haveI := Softmax.preFacts
  refine ⟨_, _, (θ_run Cert.KernelIdeal.defs _ _).mono
    (fun r h c => ⟨(h.1 c).2.2.1, (h.1 c).2.2.2, (h.1 c).1, (h.1 c).2.1⟩)
    (Cert.Proof.KernelIdeal.run_main (F := Ideal) m g), ?_⟩
  refine (θ_run Cert.ReferenceIdeal.defs _ _).mono (fun r h c => ?_) (Cert.ReferenceIdeal.Value.run (F := Ideal) m' g')
  obtain ⟨h16, h17, h0, h1⟩ := h c
  rw [(ha c).1, (ha c).2] at h16 h17
  have hz := Softmax.finite_of_pre _ _ (hp c).1
  have hi := Softmax.injective_of_pre _ _ (hp c).2
  exact ⟨h16.trans (congrArg (shapeCast _ · _) (Softmax.words_eq _ _ hz hi).symm),
    h17.trans (congrArg (shapeCast _ · _) (Softmax.values_eq _ _ hz hi).symm), h0, h1⟩

end Cert.Proof

end
-- ==== Proof.lean ====
module

public import proofs.«01_k».proof.Defs
public import proofs.«01_k».proof.Proof.Frames
public import proofs.«01_k».proof.Proof.Algebraic

/-! # The claims, put together

The frames hold without the precondition, so with it too. -/

@[expose] public section

namespace Cert.Proof

open Cert.Kernel.Gen Cert.KernelIdeal.Gen Cert.ReferenceIdeal.Gen

theorem claim : Cert.Claim :=
  ⟨Cert.Kernel.Gen.facts, Cert.KernelIdeal.Gen.facts, Cert.ReferenceIdeal.Gen.facts, Softmax.preFacts,
    frame_kernel, frame_kernelIdeal, fun m ρ _ => frame_kernelIdeal m ρ trivial,
    frame_referenceIdeal, fun m ρ _ => frame_referenceIdeal m ρ trivial, trivial, algebraic⟩

end Cert.Proof
